-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v21) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x6x20x64 : Shape := ⟨4, ![512, 6, 20, 64]⟩
abbrev S512x6x4x64 : Shape := ⟨4, ![512, 6, 4, 64]⟩
abbrev S512x2048x4x64 : Shape := ⟨4, ![512, 2048, 4, 64]⟩
abbrev S512x2048x4 : Shape := ⟨3, ![512, 2048, 4]⟩
abbrev S512 : Shape := ⟨1, ![512]⟩
abbrev S512x6x4x5x64 : Shape := ⟨5, ![512, 6, 4, 5, 64]⟩
abbrev S512x4x6x5x64 : Shape := ⟨5, ![512, 4, 6, 5, 64]⟩
abbrev S512x4x30x64 : Shape := ⟨4, ![512, 4, 30, 64]⟩
abbrev S512x4x6x64 : Shape := ⟨4, ![512, 4, 6, 64]⟩
abbrev S512x4x64x2048 : Shape := ⟨4, ![512, 4, 64, 2048]⟩
abbrev S512x4x2048 : Shape := ⟨3, ![512, 4, 2048]⟩
abbrev S512x4x6x1 : Shape := ⟨4, ![512, 4, 6, 1]⟩
abbrev S1x4x30x64 : Shape := ⟨4, ![1, 4, 30, 64]⟩
abbrev S1x4x6x64 : Shape := ⟨4, ![1, 4, 6, 64]⟩
abbrev S1x4x64x2048 : Shape := ⟨4, ![1, 4, 64, 2048]⟩
abbrev S1x4x2048 : Shape := ⟨3, ![1, 4, 2048]⟩
abbrev S1x4x6x1 : Shape := ⟨4, ![1, 4, 6, 1]⟩
abbrev S1 : Shape := ⟨1, ![1]⟩
abbrev S4x6x64 : Shape := ⟨3, ![4, 6, 64]⟩
abbrev S4x6 : Shape := ⟨2, ![4, 6]⟩
abbrev S4x6x1 : Shape := ⟨3, ![4, 6, 1]⟩
abbrev S1x2048 : Shape := ⟨2, ![1, 2048]⟩
abbrev S30x6 : Shape := ⟨2, ![30, 6]⟩
abbrev S1x1x30x64 : Shape := ⟨4, ![1, 1, 30, 64]⟩
abbrev S30x64 : Shape := ⟨2, ![30, 64]⟩
abbrev S1x1x64x2048 : Shape := ⟨4, ![1, 1, 64, 2048]⟩
abbrev S64x2048 : Shape := ⟨2, ![64, 2048]⟩
abbrev S30x2048 : Shape := ⟨2, ![30, 2048]⟩
abbrev S1x1x2048 : Shape := ⟨3, ![1, 1, 2048]⟩
abbrev S1x6x64 : Shape := ⟨3, ![1, 6, 64]⟩
abbrev S6x64 : Shape := ⟨2, ![6, 64]⟩
abbrev S1x6x1 : Shape := ⟨3, ![1, 6, 1]⟩
abbrev S6x1 : Shape := ⟨2, ![6, 1]⟩
abbrev S1x6 : Shape := ⟨2, ![1, 6]⟩
abbrev S30 : Shape := ⟨1, ![30]⟩
abbrev S30x1 : Shape := ⟨2, ![30, 1]⟩
abbrev S3072x1280 : Shape := ⟨2, ![3072, 1280]⟩
abbrev S3072x1 : Shape := ⟨2, ![3072, 1]⟩
abbrev S384x1280 : Shape := ⟨2, ![384, 1280]⟩
abbrev S384x1 : Shape := ⟨2, ![384, 1]⟩
abbrev S384 : Shape := ⟨1, ![384]⟩
abbrev S512x6x1280 : Shape := ⟨3, ![512, 6, 1280]⟩
abbrev S512x6 : Shape := ⟨2, ![512, 6]⟩
abbrev S512x4x6 : Shape := ⟨3, ![512, 4, 6]⟩
abbrev S512x6x4 : Shape := ⟨3, ![512, 6, 4]⟩

abbrev nBuf : Space → Nat
  | .hbm => 34
  | .vmem => 30
  | .smem => 1
  | _ => 0

abbrev bufTy : (tb : Table) → Fin (tcTables nBuf tb) → BufTy
  | .hbm, ⟨0, _⟩ => ⟨S512x6x20x64, .bf16⟩
  | .hbm, ⟨1, _⟩ => ⟨S512x6x4x64, .bf16⟩
  | .hbm, ⟨2, _⟩ => ⟨S512x6x4x64, .bf16⟩
  | .hbm, ⟨3, _⟩ => ⟨S512x2048x4x64, .i8⟩
  | .hbm, ⟨4, _⟩ => ⟨S512x2048x4x64, .i8⟩
  | .hbm, ⟨5, _⟩ => ⟨S512x2048x4, .f32⟩
  | .hbm, ⟨6, _⟩ => ⟨S512x2048x4, .f32⟩
  | .hbm, ⟨7, _⟩ => ⟨S512x6x4x5x64, .bf16⟩
  | .hbm, ⟨8, _⟩ => ⟨S512x4x6x5x64, .bf16⟩
  | .hbm, ⟨9, _⟩ => ⟨S512x4x30x64, .bf16⟩
  | .hbm, ⟨10, _⟩ => ⟨S512x4x6x64, .bf16⟩
  | .hbm, ⟨11, _⟩ => ⟨S512x4x6x64, .bf16⟩
  | .hbm, ⟨12, _⟩ => ⟨S512x4x64x2048, .i8⟩
  | .hbm, ⟨13, _⟩ => ⟨S512x4x64x2048, .i8⟩
  | .hbm, ⟨14, _⟩ => ⟨S512x4x2048, .f32⟩
  | .hbm, ⟨15, _⟩ => ⟨S512x4x2048, .f32⟩
  | .hbm, ⟨16, _⟩ => ⟨S512x4x30x64, .f32⟩
  | .hbm, ⟨17, _⟩ => ⟨S512x4x6x64, .i8⟩
  | .hbm, ⟨18, _⟩ => ⟨S512x4x6x1, .f32⟩
  | .hbm, ⟨19, _⟩ => ⟨S512x4x6x64, .i8⟩
  | .hbm, ⟨20, _⟩ => ⟨S512x4x6x1, .f32⟩
  | .hbm, ⟨21, _⟩ => ⟨S512x4x6x5x64, .f32⟩
  | .hbm, ⟨22, _⟩ => ⟨S512x6x4x5x64, .f32⟩
  | .hbm, ⟨23, _⟩ => ⟨S3072x1280, .f32⟩
  | .hbm, ⟨24, _⟩ => ⟨S3072x1280, .i8⟩
  | .hbm, ⟨25, _⟩ => ⟨S3072x1, .f32⟩
  | .hbm, ⟨26, _⟩ => ⟨S512x6x1280, .i8⟩
  | .hbm, ⟨27, _⟩ => ⟨S512x6, .f32⟩
  | .hbm, ⟨28, _⟩ => ⟨S512x6x4x64, .i8⟩
  | .hbm, ⟨29, _⟩ => ⟨S512x4x6, .f32⟩
  | .hbm, ⟨30, _⟩ => ⟨S512x6x4, .f32⟩
  | .hbm, ⟨31, _⟩ => ⟨S512x6x4x64, .i8⟩
  | .hbm, ⟨32, _⟩ => ⟨S512x4x6, .f32⟩
  | .hbm, ⟨33, _⟩ => ⟨S512x6x4, .f32⟩
  | .local _ .vmem, ⟨0, _⟩ => ⟨S1x4x30x64, .bf16⟩
  | .local _ .vmem, ⟨1, _⟩ => ⟨S1x4x30x64, .bf16⟩
  | .local _ .vmem, ⟨2, _⟩ => ⟨S1x4x6x64, .bf16⟩
  | .local _ .vmem, ⟨3, _⟩ => ⟨S1x4x6x64, .bf16⟩
  | .local _ .vmem, ⟨4, _⟩ => ⟨S1x4x6x64, .bf16⟩
  | .local _ .vmem, ⟨5, _⟩ => ⟨S1x4x6x64, .bf16⟩
  | .local _ .vmem, ⟨6, _⟩ => ⟨S1x4x64x2048, .i8⟩
  | .local _ .vmem, ⟨7, _⟩ => ⟨S1x4x64x2048, .i8⟩
  | .local _ .vmem, ⟨8, _⟩ => ⟨S1x4x64x2048, .i8⟩
  | .local _ .vmem, ⟨9, _⟩ => ⟨S1x4x64x2048, .i8⟩
  | .local _ .vmem, ⟨10, _⟩ => ⟨S1x4x2048, .f32⟩
  | .local _ .vmem, ⟨11, _⟩ => ⟨S1x4x2048, .f32⟩
  | .local _ .vmem, ⟨12, _⟩ => ⟨S1x4x2048, .f32⟩
  | .local _ .vmem, ⟨13, _⟩ => ⟨S1x4x2048, .f32⟩
  | .local _ .vmem, ⟨14, _⟩ => ⟨S1x4x30x64, .f32⟩
  | .local _ .vmem, ⟨15, _⟩ => ⟨S1x4x30x64, .f32⟩
  | .local _ .vmem, ⟨16, _⟩ => ⟨S1x4x6x64, .i8⟩
  | .local _ .vmem, ⟨17, _⟩ => ⟨S1x4x6x64, .i8⟩
  | .local _ .vmem, ⟨18, _⟩ => ⟨S1x4x6x1, .f32⟩
  | .local _ .vmem, ⟨19, _⟩ => ⟨S1x4x6x1, .f32⟩
  | .local _ .vmem, ⟨20, _⟩ => ⟨S1x4x6x64, .i8⟩
  | .local _ .vmem, ⟨21, _⟩ => ⟨S1x4x6x64, .i8⟩
  | .local _ .vmem, ⟨22, _⟩ => ⟨S1x4x6x1, .f32⟩
  | .local _ .vmem, ⟨23, _⟩ => ⟨S1x4x6x1, .f32⟩
  | .local _ .vmem, ⟨24, _⟩ => ⟨S384x1280, .f32⟩
  | .local _ .vmem, ⟨25, _⟩ => ⟨S384x1280, .f32⟩
  | .local _ .vmem, ⟨26, _⟩ => ⟨S384x1280, .i8⟩
  | .local _ .vmem, ⟨27, _⟩ => ⟨S384x1280, .i8⟩
  | .local _ .vmem, ⟨28, _⟩ => ⟨S384x1, .f32⟩
  | .local _ .vmem, ⟨29, _⟩ => ⟨S384x1, .f32⟩
  | .local _ .smem, ⟨0, _⟩ => ⟨S512, .i32⟩
  | _, _ => ⟨S512x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29

abbrev nD : Nat := 1
abbrev τ : Topo := Topo.v7x

variable {F : FTy → Type} [FloatOps F]

abbrev grid0 : Pipeline.Grid := ⟨1, ![512], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x30x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x6x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x6x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x30x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x6x64 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x6x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x6x64 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x6x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S384x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S384x1280 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S384x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S512x6x20x64 : Shape := ⟨4, ![512, 6, 20, 64]⟩
abbrev S512x6x4x64 : Shape := ⟨4, ![512, 6, 4, 64]⟩
abbrev S512x2048x4x64 : Shape := ⟨4, ![512, 2048, 4, 64]⟩
abbrev S512x2048x4 : Shape := ⟨3, ![512, 2048, 4]⟩
abbrev S512 : Shape := ⟨1, ![512]⟩
abbrev S512x6x1280 : Shape := ⟨3, ![512, 6, 1280]⟩
abbrev S512x6 : Shape := ⟨2, ![512, 6]⟩
abbrev S512x6x4 : Shape := ⟨3, ![512, 6, 4]⟩
abbrev S512x6x4x1 : Shape := ⟨4, ![512, 6, 4, 1]⟩
abbrev S512x6x4x5x64 : Shape := ⟨5, ![512, 6, 4, 5, 64]⟩
abbrev S512x4x6x5x64 : Shape := ⟨5, ![512, 4, 6, 5, 64]⟩
abbrev S512x4x30x64 : Shape := ⟨4, ![512, 4, 30, 64]⟩
abbrev S512x4x30x2048 : Shape := ⟨4, ![512, 4, 30, 2048]⟩
abbrev S512x4x2048 : Shape := ⟨3, ![512, 4, 2048]⟩
abbrev S512x4x1x2048 : Shape := ⟨4, ![512, 4, 1, 2048]⟩
abbrev S512x2048 : Shape := ⟨2, ![512, 2048]⟩
abbrev S512x1 : Shape := ⟨2, ![512, 1]⟩
abbrev S512x1x1x2048 : Shape := ⟨4, ![512, 1, 1, 2048]⟩
abbrev S512x4x30x6 : Shape := ⟨4, ![512, 4, 30, 6]⟩
abbrev S512x4x6 : Shape := ⟨3, ![512, 4, 6]⟩
abbrev S512x4x1x6 : Shape := ⟨4, ![512, 4, 1, 6]⟩
abbrev S30x6 : Shape := ⟨2, ![30, 6]⟩
abbrev S1x1x30x6 : Shape := ⟨4, ![1, 1, 30, 6]⟩
abbrev S512x4x30 : Shape := ⟨3, ![512, 4, 30]⟩
abbrev S512x4x30x1 : Shape := ⟨4, ![512, 4, 30, 1]⟩
abbrev S512x6x1 : Shape := ⟨3, ![512, 6, 1]⟩

abbrev nBuf : Space → Nat
  | .hbm => 14
  | .vmem => 14
  | .smem => 0
  | _ => 0

abbrev bufTy : (tb : Table) → Fin (tcTables nBuf tb) → BufTy
  | .hbm, ⟨0, _⟩ => ⟨S512x6x20x64, .bf16⟩
  | .hbm, ⟨1, _⟩ => ⟨S512x6x4x64, .bf16⟩
  | .hbm, ⟨2, _⟩ => ⟨S512x6x4x64, .bf16⟩
  | .hbm, ⟨3, _⟩ => ⟨S512x2048x4x64, .i8⟩
  | .hbm, ⟨4, _⟩ => ⟨S512x2048x4x64, .i8⟩
  | .hbm, ⟨5, _⟩ => ⟨S512x2048x4, .f32⟩
  | .hbm, ⟨6, _⟩ => ⟨S512x2048x4, .f32⟩
  | .hbm, ⟨7, _⟩ => ⟨S512, .i32⟩
  | .hbm, ⟨8, _⟩ => ⟨S512x6x1280, .i8⟩
  | .hbm, ⟨9, _⟩ => ⟨S512x6, .f32⟩
  | .hbm, ⟨10, _⟩ => ⟨S512x6x4x64, .i8⟩
  | .hbm, ⟨11, _⟩ => ⟨S512x6x4, .f32⟩
  | .hbm, ⟨12, _⟩ => ⟨S512x6x4x64, .i8⟩
  | .hbm, ⟨13, _⟩ => ⟨S512x6x4, .f32⟩
  | .local _ .vmem, ⟨0, _⟩ => ⟨S512x6x20x64, .bf16⟩
  | .local _ .vmem, ⟨1, _⟩ => ⟨S512x6x4x64, .bf16⟩
  | .local _ .vmem, ⟨2, _⟩ => ⟨S512x6x4x64, .bf16⟩
  | .local _ .vmem, ⟨3, _⟩ => ⟨S512x2048x4x64, .i8⟩
  | .local _ .vmem, ⟨4, _⟩ => ⟨S512x2048x4x64, .i8⟩
  | .local _ .vmem, ⟨5, _⟩ => ⟨S512x2048x4, .f32⟩
  | .local _ .vmem, ⟨6, _⟩ => ⟨S512x2048x4, .f32⟩
  | .local _ .vmem, ⟨7, _⟩ => ⟨S512, .i32⟩
  | .local _ .vmem, ⟨8, _⟩ => ⟨S512x6x1280, .i8⟩
  | .local _ .vmem, ⟨9, _⟩ => ⟨S512x6, .f32⟩
  | .local _ .vmem, ⟨10, _⟩ => ⟨S512x6x4x64, .i8⟩
  | .local _ .vmem, ⟨11, _⟩ => ⟨S512x6x4, .f32⟩
  | .local _ .vmem, ⟨12, _⟩ => ⟨S512x6x4x64, .i8⟩
  | .local _ .vmem, ⟨13, _⟩ => ⟨S512x6x4, .f32⟩
  | _, _ => ⟨S512x6x20x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S512x6x20x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x6x4x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x6x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048x4x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048x4x64 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x2048x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x6x1280 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x6x4x64 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x6x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x6x4x64 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x6x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelAttend.lean ====
/- The first call of the program, `attend`: what its body leaves in each result's block, and that the body does so at
   every grid point, with the table of lengths held. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule of the call's result windows, and its body at a point -/

/-- Window 7 (result 0 (%9#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%9#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%9#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 (result 3 (%9#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 4 (%9#4)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

section Regions
-- the TensorCore's buffer contents when the call is entered, and the contents of its table: what the call's half of
-- the run is stated at
variable (V : (c : Dev nD) → (b : Ref sig .tc) → Buf (Elt F) ((c : Thread nD τ).loc b)) (a : (pcfg0 (F := F)).Adm)

/-! # REGION 0 of @main: custom_call 0, `cc0_attend` (pipeline 0), at the entry contents `V` -/

/-! ## The windows' blocks -/

/-- Window `w`'s block at point `t`, read off its array as the region finds it (`V`). -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x4x6x64 := Rect.unit (s := S1x4x6x64) ![0, 0, 0, 0] S1x4x6x64.size inb_S1x4x6x64_S1x4x6x64_0_0_0_0
abbrev r0_1 : Rect S1x4x6x1 := Rect.unit (s := S1x4x6x1) ![0, 0, 0, 0] S1x4x6x1.size inb_S1x4x6x1_S1x4x6x1_0_0_0_0
abbrev r0_2 : Rect S1x4x30x64 := Rect.unit (s := S1x4x30x64) ![0, 0, 0, 0] S1x1x30x64.size inb_S1x4x30x64_S1x1x30x64_0_0_0_0
abbrev r0_3 : Rect S1x4x64x2048 := Rect.unit (s := S1x4x64x2048) ![0, 0, 0, 0] S1x1x64x2048.size inb_S1x4x64x2048_S1x1x64x2048_0_0_0_0
abbrev r0_4 : Rect S1x4x2048 := Rect.unit (s := S1x4x2048) ![0, 0, 0] S1x1x2048.size inb_S1x4x2048_S1x1x2048_0_0_0
abbrev r0_5 : Rect S1x4x30x64 := Rect.unit (s := S1x4x30x64) ![0, 1, 0, 0] S1x1x30x64.size inb_S1x4x30x64_S1x1x30x64_0_1_0_0
abbrev r0_6 : Rect S1x4x64x2048 := Rect.unit (s := S1x4x64x2048) ![0, 1, 0, 0] S1x1x64x2048.size inb_S1x4x64x2048_S1x1x64x2048_0_1_0_0
abbrev r0_7 : Rect S1x4x2048 := Rect.unit (s := S1x4x2048) ![0, 1, 0] S1x1x2048.size inb_S1x4x2048_S1x1x2048_0_1_0
abbrev r0_8 : Rect S1x4x30x64 := Rect.unit (s := S1x4x30x64) ![0, 2, 0, 0] S1x1x30x64.size inb_S1x4x30x64_S1x1x30x64_0_2_0_0
abbrev r0_9 : Rect S1x4x64x2048 := Rect.unit (s := S1x4x64x2048) ![0, 2, 0, 0] S1x1x64x2048.size inb_S1x4x64x2048_S1x1x64x2048_0_2_0_0
abbrev r0_10 : Rect S1x4x2048 := Rect.unit (s := S1x4x2048) ![0, 2, 0] S1x1x2048.size inb_S1x4x2048_S1x1x2048_0_2_0
abbrev r0_11 : Rect S1x4x30x64 := Rect.unit (s := S1x4x30x64) ![0, 3, 0, 0] S1x1x30x64.size inb_S1x4x30x64_S1x1x30x64_0_3_0_0
abbrev r0_12 : Rect S1x4x64x2048 := Rect.unit (s := S1x4x64x2048) ![0, 3, 0, 0] S1x1x64x2048.size inb_S1x4x64x2048_S1x1x64x2048_0_3_0_0
abbrev r0_13 : Rect S1x4x2048 := Rect.unit (s := S1x4x2048) ![0, 3, 0] S1x1x2048.size inb_S1x4x2048_S1x1x2048_0_3_0

/-! ## What the body leaves in each output window's buffer -/

/-! ### One head's attention

    The body spells the same attention four times, once per head; here it is stated once, of the head's blocks: `xq` the
    queries, `xk`/`xv` the cached codes, `xks`/`xvs` their scales, `valid` the mask of the cached positions, `causal` the mask
    of the new ones, `kn`/`vn` the codes of the new keys and values and `kns`/`vns` their scales. -/

/-- The mask of the cached positions: those before the sequence's length. -/
def validOf (n : Elt F .i32) : IVec S1x2048 1 := k0_pay14 n

/-- The mask of the new positions: a query sees the new keys up to its own position. -/
def causal : IVec S30x6 1 :=
  k0_pay17 (iota .tc S30x6 32 [0] iota_S30x6_d0_w32) 5#32 k0_pay15 k0_pay16

/-- The codes of the new values, as floats. -/
def vcodes (x : Vec F S1x4x6x64 .bf16) : FVec F S4x6x64 .f32 := k0_pay9 (k0_pay7 x) k0_pay8

/-- The scores against the cached keys. -/
def scoresC (xq : Vec F S1x1x30x64 .bf16) (xk : Vec F S1x1x64x2048 .i8) (xks : Vec F S1x1x2048 .f32) (valid : IVec S1x2048 1) : FVec F S30x2048 .f32 :=
  select (broadcastTo S30x2048 (shapeCast S1x2048 valid shapeCasts_S1x2048_S1x2048) broadcasts_S1x2048_S30x2048)
    (mulf (matmul dot_S30x64_S64x2048_S30x2048_1_0_0_1_n_n none (shapeCast S30x64 xq shapeCasts_S1x1x30x64_S30x64 : FVec F S30x64 .bf16)
        (sitofp .bf16 (shapeCast S64x2048 xk shapeCasts_S1x1x64x2048_S64x2048 : IVec S64x2048 8)) (constant S30x2048 .f32 0x00000000#32))
      (broadcastTo S30x2048 (mulf (shapeCast S1x2048 xks shapeCasts_S1x1x2048_S1x2048) (broadcast S1x2048 (Scalar.ofBits .f32 0x3E000000#32))) broadcasts_S1x2048_S30x2048))
    (broadcast S30x2048 (Scalar.ofBits .f32 0xFF800000#32))

/-- The scores against the new keys. -/
def scoresN (xq : Vec F S1x1x30x64 .bf16) (causal : IVec S30x6 1) (kn : FVec F S1x6x64 .f32) (kns : FVec F S1x6x1 .f32) : FVec F S30x6 .f32 :=
  select causal
    (mulf (matmul dot_S30x64_S6x64_S30x6_1_1_0_0_n_n none (shapeCast S30x64 xq shapeCasts_S1x1x30x64_S30x64 : FVec F S30x64 .bf16)
        (truncf .bf16 (shapeCast S6x64 kn shapeCasts_S1x6x64_S6x64) bitsLt_bf16_f32) (constant S30x6 .f32 0x00000000#32))
      (broadcastTo S30x6 (mulf (transpose S1x6 [1, 0] (shapeCast S6x1 kns shapeCasts_S1x6x1_S6x1) transposes_S6x1_p1_0_S1x6) (broadcast S1x6 (Scalar.ofBits .f32 0x3E000000#32))) broadcasts_S1x6_S30x6))
    (broadcast S30x6 (Scalar.ofBits .f32 0xFF800000#32))

/-- Each row's largest score. -/
def rowMax (sc : FVec F S30x2048 .f32) (sn : FVec F S30x6 .f32) : FVec F S30x1 .f32 :=
  maximumf (shapeCast S30x1 (multiReduction .maximumf [1] S30 sc 0xFF800000#32 reduces_S30x2048_S30 (.inl rfl) rfl) shapeCasts_S30_S30x1)
    (shapeCast S30x1 (multiReduction .maximumf [1] S30 sn 0xFF800000#32 reduces_S30x6_S30 (.inl rfl) rfl) shapeCasts_S30_S30x1)

/-- The exponentials of the cached scores. -/
def expC (sc : FVec F S30x2048 .f32) (mx : FVec F S30x1 .f32) : FVec F S30x2048 .f32 := exp (subf sc (broadcastTo S30x2048 mx broadcasts_S30x1_S30x2048))

/-- The exponentials of the new scores. -/
def expN (sn : FVec F S30x6 .f32) (mx : FVec F S30x1 .f32) : FVec F S30x6 .f32 := exp (subf sn (broadcastTo S30x6 mx broadcasts_S30x1_S30x6))

/-- One over each row's sum. -/
def rowInv (ec : FVec F S30x2048 .f32) (en : FVec F S30x6 .f32) : FVec F S30x1 .f32 :=
  divf (broadcast S30x1 (Scalar.ofBits .f32 0x3F800000#32))
    (addf (shapeCast S30x1 (multiReduction .add [1] S30 ec 0x00000000#32 reduces_S30x2048_S30 (.inl rfl) rfl) shapeCasts_S30_S30x1)
      (shapeCast S30x1 (multiReduction .add [1] S30 en 0x00000000#32 reduces_S30x6_S30 (.inl rfl) rfl) shapeCasts_S30_S30x1))

/-- The cached values weighed, plus the new values weighed. -/
def mix (ec : FVec F S30x2048 .f32) (en : FVec F S30x6 .f32) (inv : FVec F S30x1 .f32) (xv : Vec F S1x1x64x2048 .i8) (xvs : Vec F S1x1x2048 .f32)
    (vn : FVec F S1x6x64 .f32) (vns : FVec F S1x6x1 .f32) : FVec F S30x64 .f32 :=
  addf
    (matmul dot_S30x2048_S64x2048_S30x64_1_1_0_0_n_n none
      (truncf .bf16 (mulf (mulf ec (broadcastTo S30x2048 inv broadcasts_S30x1_S30x2048)) (broadcastTo S30x2048 (shapeCast S1x2048 xvs shapeCasts_S1x1x2048_S1x2048) broadcasts_S1x2048_S30x2048)) bitsLt_bf16_f32)
      (sitofp .bf16 (shapeCast S64x2048 xv shapeCasts_S1x1x64x2048_S64x2048 : IVec S64x2048 8)) (constant S30x64 .f32 0x00000000#32))
    (matmul dot_S30x6_S6x64_S30x64_1_0_0_1_n_n none
      (truncf .bf16 (mulf (mulf en (broadcastTo S30x6 inv broadcasts_S30x1_S30x6)) (broadcastTo S30x6 (transpose S1x6 [1, 0] (shapeCast S6x1 vns shapeCasts_S1x6x1_S6x1) transposes_S6x1_p1_0_S1x6) broadcasts_S1x6_S30x6)) bitsLt_bf16_f32)
      (truncf .bf16 (shapeCast S6x64 vn shapeCasts_S1x6x64_S6x64) bitsLt_bf16_f32) (constant S30x64 .f32 0x00000000#32))

/-- The weighed values of one head, from its scores. -/
def headMix (sc : FVec F S30x2048 .f32) (sn : FVec F S30x6 .f32) (xv : Vec F S1x1x64x2048 .i8) (xvs : Vec F S1x1x2048 .f32)
    (vn : FVec F S1x6x64 .f32) (vns : FVec F S1x6x1 .f32) : FVec F S30x64 .f32 :=
  mix (expC sc (rowMax sc sn)) (expN sn (rowMax sc sn)) (rowInv (expC sc (rowMax sc sn)) (expN sn (rowMax sc sn))) xv xvs vn vns

/-- The block one head's store writes. -/
def headOut (xq : Vec F S1x1x30x64 .bf16) (xk xv : Vec F S1x1x64x2048 .i8) (xks xvs : Vec F S1x1x2048 .f32) (valid : IVec S1x2048 1)
    (causal : IVec S30x6 1) (kn : FVec F S1x6x64 .f32) (kns : FVec F S1x6x1 .f32) (vn : FVec F S1x6x64 .f32) (vns : FVec F S1x6x1 .f32) :
    FVec F S1x1x30x64 .f32 :=
  shapeCast S1x1x30x64 (headMix (scoresC xq xk xks valid) (scoresN xq causal kn kns) xv xvs vn vns) shapeCasts_S30x64_S1x1x30x64

/-- Window 7's staging buffer after the body: the attention of the four heads, the four stores last first; `n` the
    sequence's length, the word the body loads from the table. -/
def out0_7 (n : Elt F .i32) (x0 : Vec F S1x4x30x64 .bf16) (x1 : Vec F S1x4x6x64 .bf16) (x2 : Vec F S1x4x6x64 .bf16) (x3 : Vec F S1x4x64x2048 .i8) (x4 : Vec F S1x4x64x2048 .i8) (x5 : Vec F S1x4x2048 .f32) (x6 : Vec F S1x4x2048 .f32) : Vec F S1x4x30x64 .f32 :=
  View.canon [⟨r0_11, headOut (View.ld x0 r0_11) (View.ld x3 r0_12) (View.ld x4 r0_12) (View.ld x5 r0_13) (View.ld x6 r0_13) (validOf n) causal
      (extractStridedSlice S1x6x64 ![3, 0, 0] (k0_pay4 (View.ld x1 r0_0)) slices_S4x6x64_o3_0_0_S1x6x64) (extractStridedSlice S1x6x1 ![3, 0, 0] (k0_pay3 (View.ld x1 r0_0)) slices_S4x6x1_o3_0_0_S1x6x1)
      (extractStridedSlice S1x6x64 ![3, 0, 0] (vcodes (View.ld x2 r0_0)) slices_S4x6x64_o3_0_0_S1x6x64) (extractStridedSlice S1x6x1 ![3, 0, 0] (k0_pay6 (View.ld x2 r0_0)) slices_S4x6x1_o3_0_0_S1x6x1)⟩,
    ⟨r0_8, headOut (View.ld x0 r0_8) (View.ld x3 r0_9) (View.ld x4 r0_9) (View.ld x5 r0_10) (View.ld x6 r0_10) (validOf n) causal
      (extractStridedSlice S1x6x64 ![2, 0, 0] (k0_pay4 (View.ld x1 r0_0)) slices_S4x6x64_o2_0_0_S1x6x64) (extractStridedSlice S1x6x1 ![2, 0, 0] (k0_pay3 (View.ld x1 r0_0)) slices_S4x6x1_o2_0_0_S1x6x1)
      (extractStridedSlice S1x6x64 ![2, 0, 0] (vcodes (View.ld x2 r0_0)) slices_S4x6x64_o2_0_0_S1x6x64) (extractStridedSlice S1x6x1 ![2, 0, 0] (k0_pay6 (View.ld x2 r0_0)) slices_S4x6x1_o2_0_0_S1x6x1)⟩,
    ⟨r0_5, headOut (View.ld x0 r0_5) (View.ld x3 r0_6) (View.ld x4 r0_6) (View.ld x5 r0_7) (View.ld x6 r0_7) (validOf n) causal
      (extractStridedSlice S1x6x64 ![1, 0, 0] (k0_pay4 (View.ld x1 r0_0)) slices_S4x6x64_o1_0_0_S1x6x64) (extractStridedSlice S1x6x1 ![1, 0, 0] (k0_pay3 (View.ld x1 r0_0)) slices_S4x6x1_o1_0_0_S1x6x1)
      (extractStridedSlice S1x6x64 ![1, 0, 0] (vcodes (View.ld x2 r0_0)) slices_S4x6x64_o1_0_0_S1x6x64) (extractStridedSlice S1x6x1 ![1, 0, 0] (k0_pay6 (View.ld x2 r0_0)) slices_S4x6x1_o1_0_0_S1x6x1)⟩,
    ⟨r0_2, headOut (View.ld x0 r0_2) (View.ld x3 r0_3) (View.ld x4 r0_3) (View.ld x5 r0_4) (View.ld x6 r0_4) (validOf n) causal
      (extractStridedSlice S1x6x64 ![0, 0, 0] (k0_pay4 (View.ld x1 r0_0)) slices_S4x6x64_o0_0_0_S1x6x64) (extractStridedSlice S1x6x1 ![0, 0, 0] (k0_pay3 (View.ld x1 r0_0)) slices_S4x6x1_o0_0_0_S1x6x1)
      (extractStridedSlice S1x6x64 ![0, 0, 0] (vcodes (View.ld x2 r0_0)) slices_S4x6x64_o0_0_0_S1x6x64) (extractStridedSlice S1x6x1 ![0, 0, 0] (k0_pay6 (View.ld x2 r0_0)) slices_S4x6x1_o0_0_0_S1x6x1)⟩]

/-- Window 8's staging buffer after the body: the codes of the new keys. -/
def out0_8 (x1 : Vec F S1x4x6x64 .bf16) : Vec F S1x4x6x64 .i8 :=
  View.canon [⟨r0_0, k0_pay10 (k0_pay4 (View.ld x1 r0_0))⟩]

/-- Window 9's staging buffer after the body: the scales of the new keys. -/
def out0_9 (x1 : Vec F S1x4x6x64 .bf16) : Vec F S1x4x6x1 .f32 :=
  View.canon [⟨r0_1, k0_pay12 (k0_pay3 (View.ld x1 r0_0))⟩]

/-- Window 10's staging buffer after the body: the codes of the new values. -/
def out0_10 (x2 : Vec F S1x4x6x64 .bf16) : Vec F S1x4x6x64 .i8 :=
  View.canon [⟨r0_0, k0_pay11 (k0_pay7 (View.ld x2 r0_0)) (k0_pay8 (F := F))⟩]

/-- Window 11's staging buffer after the body: the scales of the new values. -/
def out0_11 (x2 : Vec F S1x4x6x64 .bf16) : Vec F S1x4x6x1 .f32 :=
  View.canon [⟨r0_1, k0_pay13 (k0_pay6 (View.ld x2 r0_0))⟩]

/-- Its stores tile the buffer (checked by evaluation), so they cover it. -/
theorem cover0_7 (p0 : Vec F S1x1x30x64 .f32) (p1 : Vec F S1x1x30x64 .f32) (p2 : Vec F S1x1x30x64 .f32) (p3 : Vec F S1x1x30x64 .f32) (y : S1x4x30x64.Idx) :
    ∃ pc ∈ ([⟨r0_11, p0⟩, ⟨r0_8, p1⟩, ⟨r0_5, p2⟩, ⟨r0_2, p3⟩] : List (View.Piece (Elt F) S1x4x30x64 .f32)), y ∈ pc.1.set :=
  View.cover_of_tiled [⟨r0_11, p0⟩, ⟨r0_8, p1⟩, ⟨r0_5, p2⟩, ⟨r0_2, p3⟩] S1x1x30x64.size (by rfl) y

/-- Its stores tile the buffer (checked by evaluation), so they cover it. -/
theorem cover0_8 (p0 : Vec F S1x4x6x64 .i8) (y : S1x4x6x64.Idx) :
    ∃ pc ∈ ([⟨r0_0, p0⟩] : List (View.Piece (Elt F) S1x4x6x64 .i8)), y ∈ pc.1.set :=
  View.cover_of_tiled [⟨r0_0, p0⟩] S1x4x6x64.size (by rfl) y

/-- Its stores tile the buffer (checked by evaluation), so they cover it. -/
theorem cover0_9 (p0 : Vec F S1x4x6x1 .f32) (y : S1x4x6x1.Idx) :
    ∃ pc ∈ ([⟨r0_1, p0⟩] : List (View.Piece (Elt F) S1x4x6x1 .f32)), y ∈ pc.1.set :=
  View.cover_of_tiled [⟨r0_1, p0⟩] S1x4x6x1.size (by rfl) y

/-- Its stores tile the buffer (checked by evaluation), so they cover it. -/
theorem cover0_10 (p0 : Vec F S1x4x6x64 .i8) (y : S1x4x6x64.Idx) :
    ∃ pc ∈ ([⟨r0_0, p0⟩] : List (View.Piece (Elt F) S1x4x6x64 .i8)), y ∈ pc.1.set :=
  View.cover_of_tiled [⟨r0_0, p0⟩] S1x4x6x64.size (by rfl) y

/-- Its stores tile the buffer (checked by evaluation), so they cover it. -/
theorem cover0_11 (p0 : Vec F S1x4x6x1 .f32) (y : S1x4x6x1.Idx) :
    ∃ pc ∈ ([⟨r0_1, p0⟩] : List (View.Piece (Elt F) S1x4x6x1 .f32)), y ∈ pc.1.set :=
  View.cover_of_tiled [⟨r0_1, p0⟩] S1x4x6x1.size (by rfl) y

/-! ## The table of lengths -/

/-- The word of the table `xt` the body loads at grid point `i`: the length of sequence `i`. -/
def wordAt (xt : S512.Idx → Elt F .i32) (i : grid0.Coords) : Elt F .i32 :=
  xt ((Rect.unit (s := S512) (k0_off1 i) S1.size (k0_off1_inb i)).emb (Shape.Idx.first (numel1_S1.symm ▸ Nat.one_pos)))

/-- The table's buffer on core `c`, held whole at the contents `xt`. -/
def tablePt (c : Dev nD) (xt : S512.Idx → Elt F .i32) : sProp 𝕄 :=
  (Memref.whole main_arg7).view.loc (c : Thread nD τ) ↦{fullShare} xt

/-- The prefetched tables of the region are the one table, held whole. -/
theorem table_held (c : Dev nD) (pf : pre0.Contents (Elt F)) :
    (Pipeline.prefHeld pre0 c (fun _ => fullShare) pf : sProp 𝕄) = tablePt c (pf 0) := by
  unfold Pipeline.prefHeld
  rw [show (Finset.univ : Finset (Fin 1)) = {(0 : Fin 1)} from by decide, bigSep_singleton]
  rfl

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1x4x30x64 .bf16) (harg2 : arg2.IsWhole) (arg3 : Memref sig .tc .vmem S1x4x6x64 .bf16) (harg3 : arg3.IsWhole) (arg4 : Memref sig .tc .vmem S1x4x6x64 .bf16) (harg4 : arg4.IsWhole) (arg5 : Memref sig .tc .vmem S1x4x64x2048 .i8) (harg5 : arg5.IsWhole) (arg6 : Memref sig .tc .vmem S1x4x64x2048 .i8) (harg6 : arg6.IsWhole) (arg7 : Memref sig .tc .vmem S1x4x2048 .f32) (harg7 : arg7.IsWhole) (arg8 : Memref sig .tc .vmem S1x4x2048 .f32) (harg8 : arg8.IsWhole) (arg9 : Memref sig .tc .vmem S1x4x30x64 .f32) (harg9 : arg9.IsWhole) (arg10 : Memref sig .tc .vmem S1x4x6x64 .i8) (harg10 : arg10.IsWhole) (arg11 : Memref sig .tc .vmem S1x4x6x1 .f32) (harg11 : arg11.IsWhole) (arg12 : Memref sig .tc .vmem S1x4x6x64 .i8) (harg12 : arg12.IsWhole) (arg13 : Memref sig .tc .vmem S1x4x6x1 .f32) (harg13 : arg13.IsWhole)
    (x0 : Vec F S1x4x30x64 .bf16) (x1 : Vec F S1x4x6x64 .bf16) (x2 : Vec F S1x4x6x64 .bf16) (x3 : Vec F S1x4x64x2048 .i8) (x4 : Vec F S1x4x64x2048 .i8) (x5 : Vec F S1x4x2048 .f32) (x6 : Vec F S1x4x2048 .f32) (xt : S512.Idx → Elt F .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tablePt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 (wordAt xt i) x0 x1 x2 x3 x4 x5 x6) ∗ owns (c : Thread nD τ) arg10 fullShare (out0_8 x1) ∗ owns (c : Thread nD τ) arg11 fullShare (out0_9 x1) ∗ owns (c : Thread nD τ) arg12 fullShare (out0_10 x2) ∗ owns (c : Thread nD τ) arg13 fullShare (out0_11 x2) ∗ tablePt c xt) -∗ K ⟨⟩))
      ⊢ wp frame (wpE (defs₀ (F := F)) Variants.none c none) E (cc0_attend i (Memref.whole main_arg7) (Memref.isWhole_whole _) arg2 harg2 arg3 harg3 arg4 harg4 arg5 harg5 arg6 harg6 arg7 harg7 arg8 harg8 arg9 harg9 arg10 harg10 arg11 harg11 arg12 harg12 arg13 harg13) K := by
  simp only [cc0_attend_eq_skeleton]; unfold cc0_attend_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns tablePt
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, HT, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexact HT

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => out0_7 (wordAt (a.1 0) (grid0.coords t)) (iblk0 V a c 0 t) (iblk0 V a c 1 t) (iblk0 V a c 2 t) (iblk0 V a c 3 t) (iblk0 V a c 4 t) (iblk0 V a c 5 t) (iblk0 V a c 6 t)
    | ⟨8, _⟩ => out0_8 (iblk0 V a c 1 t)
    | ⟨9, _⟩ => out0_9 (iblk0 V a c 1 t)
    | ⟨10, _⟩ => out0_10 (iblk0 V a c 2 t)
    | ⟨11, _⟩ => out0_11 (iblk0 V a c 2 t)
  Φ _ := iprop(Pipeline.ΦA spec0 c ∗ Pipeline.prefHeld pre0 c (fun _ => fullShare) a.1)
  q _ := fullShare
  owed _ := 0

/-- The proof data's arrays are the region-entry contents, by projecting the definition (`dsimp`): a region record cites
    this for its arrays rather than have Lean unfold `V`, the fold through @main up to the region's entry. -/
theorem A_eq0 (c : Dev nD) (w : Fin (cfg0 a).W) : (dat0 V a c).A w = V c (Pipeline.arrRef spec0 w) := by
  dsimp only [dat0]

/-- What the body leaves, window by window (the proof data's `match` reduced by `dsimp`, never `rfl`: Lib/Pipeline.lean `Dat`). -/
theorem after0_0 (c : Dev nD) (t : Fin (cfg0 a).N) : (dat0 V a c).after 0 t = iblk0 V a c 0 t := by dsimp only [dat0]; rfl
/-- After the body at point `t`, window 1's buffer still holds its input block. -/
theorem after0_1 (c : Dev nD) (t : Fin (cfg0 a).N) : (dat0 V a c).after 1 t = iblk0 V a c 1 t := by dsimp only [dat0]; rfl
/-- After the body at point `t`, window 2's buffer still holds its input block. -/
theorem after0_2 (c : Dev nD) (t : Fin (cfg0 a).N) : (dat0 V a c).after 2 t = iblk0 V a c 2 t := by dsimp only [dat0]; rfl
/-- After the body at point `t`, window 3's buffer still holds its input block. -/
theorem after0_3 (c : Dev nD) (t : Fin (cfg0 a).N) : (dat0 V a c).after 3 t = iblk0 V a c 3 t := by dsimp only [dat0]; rfl
/-- After the body at point `t`, window 4's buffer still holds its input block. -/
theorem after0_4 (c : Dev nD) (t : Fin (cfg0 a).N) : (dat0 V a c).after 4 t = iblk0 V a c 4 t := by dsimp only [dat0]; rfl
/-- After the body at point `t`, window 5's buffer still holds its input block. -/
theorem after0_5 (c : Dev nD) (t : Fin (cfg0 a).N) : (dat0 V a c).after 5 t = iblk0 V a c 5 t := by dsimp only [dat0]; rfl
/-- After the body at point `t`, window 6's buffer still holds its input block. -/
theorem after0_6 (c : Dev nD) (t : Fin (cfg0 a).N) : (dat0 V a c).after 6 t = iblk0 V a c 6 t := by dsimp only [dat0]; rfl
/-- After the body at point `t`, window 7's buffer holds the attention of the four heads of that point's blocks. -/
theorem after0_7 (c : Dev nD) (t : Fin (cfg0 a).N) : (dat0 V a c).after 7 t = out0_7 (wordAt (a.1 0) (grid0.coords t)) (iblk0 V a c 0 t) (iblk0 V a c 1 t) (iblk0 V a c 2 t) (iblk0 V a c 3 t) (iblk0 V a c 4 t) (iblk0 V a c 5 t) (iblk0 V a c 6 t) := by dsimp only [dat0]; rfl
/-- After the body at point `t`, window 8's buffer holds the codes of the new keys of that point's blocks. -/
theorem after0_8 (c : Dev nD) (t : Fin (cfg0 a).N) : (dat0 V a c).after 8 t = out0_8 (iblk0 V a c 1 t) := by dsimp only [dat0]; rfl
/-- After the body at point `t`, window 9's buffer holds the scales of the new keys of that point's blocks. -/
theorem after0_9 (c : Dev nD) (t : Fin (cfg0 a).N) : (dat0 V a c).after 9 t = out0_9 (iblk0 V a c 1 t) := by dsimp only [dat0]; rfl
/-- After the body at point `t`, window 10's buffer holds the codes of the new values of that point's blocks. -/
theorem after0_10 (c : Dev nD) (t : Fin (cfg0 a).N) : (dat0 V a c).after 10 t = out0_10 (iblk0 V a c 2 t) := by dsimp only [dat0]; rfl
/-- After the body at point `t`, window 11's buffer holds the scales of the new values of that point's blocks. -/
theorem after0_11 (c : Dev nD) (t : Fin (cfg0 a).N) : (dat0 V a c).after 11 t = out0_11 (iblk0 V a c 2 t) := by dsimp only [dat0]; rfl

/-- Each input's current staging buffer holds its block at every point, fetched there or not (`beforeK_W_of`). -/
theorem before0_0 (c : Dev nD) (t : Fin (cfg0 a).N) (d) : (dat0 V a c).before 0 t d = iblk0 V a c 0 t :=
  before0_0_of V a (dat0 V a c) (A_eq0 V a c 0) (after0_0 V a c) t d
/-- Before the body at point `t`, window 1's buffer holds its input block. -/
theorem before0_1 (c : Dev nD) (t : Fin (cfg0 a).N) (d) : (dat0 V a c).before 1 t d = iblk0 V a c 1 t :=
  before0_1_of V a (dat0 V a c) (A_eq0 V a c 1) (after0_1 V a c) t d
/-- Before the body at point `t`, window 2's buffer holds its input block. -/
theorem before0_2 (c : Dev nD) (t : Fin (cfg0 a).N) (d) : (dat0 V a c).before 2 t d = iblk0 V a c 2 t :=
  before0_2_of V a (dat0 V a c) (A_eq0 V a c 2) (after0_2 V a c) t d
/-- Before the body at point `t`, window 3's buffer holds its input block. -/
theorem before0_3 (c : Dev nD) (t : Fin (cfg0 a).N) (d) : (dat0 V a c).before 3 t d = iblk0 V a c 3 t :=
  before0_3_of V a (dat0 V a c) (A_eq0 V a c 3) (after0_3 V a c) t d
/-- Before the body at point `t`, window 4's buffer holds its input block. -/
theorem before0_4 (c : Dev nD) (t : Fin (cfg0 a).N) (d) : (dat0 V a c).before 4 t d = iblk0 V a c 4 t :=
  before0_4_of V a (dat0 V a c) (A_eq0 V a c 4) (after0_4 V a c) t d
/-- Before the body at point `t`, window 5's buffer holds its input block. -/
theorem before0_5 (c : Dev nD) (t : Fin (cfg0 a).N) (d) : (dat0 V a c).before 5 t d = iblk0 V a c 5 t :=
  before0_5_of V a (dat0 V a c) (A_eq0 V a c 5) (after0_5 V a c) t d
/-- Before the body at point `t`, window 6's buffer holds its input block. -/
theorem before0_6 (c : Dev nD) (t : Fin (cfg0 a).N) (d) : (dat0 V a c).before 6 t d = iblk0 V a c 6 t :=
  before0_6_of V a (dat0 V a c) (A_eq0 V a c 6) (after0_6 V a c) t d

/-! ## The body obligation, at a generic point -/

/-- What the body is called with at point `t` (Lib/Pipeline.lean `BodyObligation`'s precondition, the windows one by one), -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d))
    ∗ (∃ d, owns (c : Thread nD τ) (st0_8 a t) fullShare ((dat0 V a c).before 8 t d))
    ∗ (∃ d, owns (c : Thread nD τ) (st0_9 a t) fullShare ((dat0 V a c).before 9 t d))
    ∗ (∃ d, owns (c : Thread nD τ) (st0_10 a t) fullShare ((dat0 V a c).before 10 t d))
    ∗ (∃ d, owns (c : Thread nD τ) (st0_11 a t) fullShare ((dat0 V a c).before 11 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t)
    ∗ owns (c : Thread nD τ) (st0_8 a t) fullShare ((dat0 V a c).after 8 t)
    ∗ owns (c : Thread nD τ) (st0_9 a t) fullShare ((dat0 V a c).after 9 t)
    ∗ owns (c : Thread nD τ) (st0_10 a t) fullShare ((dat0 V a c).after 10 t)
    ∗ owns (c : Thread nD τ) (st0_11 a t) fullShare ((dat0 V a c).after 11 t))

/-- The body at any point: the inputs' memrefs hold their blocks (`before0_W`), so `sound_kernel0` applies; the invariant and
    the core's `owes` pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4, before0_5, before0_6]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7, after0_8, after0_9, after0_10, after0_11]
  rw [show (dat0 V a c).Φ t.castSucc = iprop(Pipeline.ΦA spec0 c ∗ Pipeline.prefHeld pre0 c (fun _ => fullShare) a.1) from rfl, table_held]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V a c 0 t) (iblk0 V a c 1 t) (iblk0 V a c 2 t) (iblk0 V a c 3 t) (iblk0 V a c 4 t) (iblk0 V a c 5 t) (iblk0 V a c 6 t) (a.1 0) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HT]; · iexact HT
  iintro ⟨H0, H1, H2, H3, H4, H5, H6, H7, H8, H9, H10, H11, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row0 (t : Fin (cfg0 a).N) :
    defs₀ (F := F) .tc (cfg0 a).body ((cfg0 a).bodyArgs t ((cfg0 a).slots t)) = bodyAt0 a t := by
  unfold defs₀; rw [Defs.onTc_tc]

/-- The library's body obligation, at every point: the body's triple restated (Lib/Pipeline/FrameBody.lean `triple_restated`). -/
theorem body_obligation0 (c : Dev nD) : BodyObligation (dat0 (F := F) V a c) (defs₀ (F := F)) Variants.none () Set.univ := fun t => by
  rw [bigSep_W0, bigSep_W0, defs₀_row0]
  exact triple_restated (sound_body0 V a c t) rfl .rfl fun _ => .rfl
end Regions
end Cert.Kernel.Whole

end
-- ==== Proof.KernelOutQuant.lean ====
/- The second call of the program, `out_quant`: what its body leaves in each result's block, and that the body does so at
   every grid point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the call is entered: what the call's half of the run is stated at
variable (V : (c : Dev nD) → (b : Ref sig .tc) → Buf (Elt F) ((c : Thread nD τ).loc b))

/-! # REGION 1 of @main: custom_call 1, `cc1_out_quant` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S384x1280 := Rect.unit (s := S384x1280) ![0, 0] S384x1280.size inb_S384x1280_S384x1280_0_0
abbrev r1_1 : Rect S384x1 := Rect.unit (s := S384x1) ![0, 0] S384x1.size inb_S384x1_S384x1_0_0

/-! ## What the body leaves in each output window's buffer -/

/-- Window 1's staging buffer after the body, from the input windows' blocks: its 1 store as pieces, LAST
    FIRST (Lib/Pipeline/FrameBody.lean `View.canon`; the payloads are the skeleton's). -/
def out1_1 (x0 : Vec F S384x1280 .f32) : Vec F S384x1280 .i8 :=
  View.canon [⟨r1_0, k1_pay3 (View.ld x0 r1_0)⟩]

/-- Its stores tile the buffer (checked by evaluation), so they cover it. -/
theorem cover1_1 (p0 : Vec F S384x1280 .i8) (y : S384x1280.Idx) :
    ∃ pc ∈ ([⟨r1_0, p0⟩] : List (View.Piece (Elt F) S384x1280 .i8)), y ∈ pc.1.set :=
  View.cover_of_tiled [⟨r1_0, p0⟩] S384x1280.size (by rfl) y

/-- Window 2's staging buffer after the body, from the input windows' blocks: its 1 store as pieces, LAST
    FIRST (Lib/Pipeline/FrameBody.lean `View.canon`; the payloads are the skeleton's). -/
def out1_2 (x0 : Vec F S384x1280 .f32) : Vec F S384x1 .f32 :=
  View.canon [⟨r1_1, k1_pay2 (View.ld x0 r1_0)⟩]

/-- Its stores tile the buffer (checked by evaluation), so they cover it. -/
theorem cover1_2 (p0 : Vec F S384x1 .f32) (y : S384x1.Idx) :
    ∃ pc ∈ ([⟨r1_1, p0⟩] : List (View.Piece (Elt F) S384x1 .f32)), y ∈ pc.1.set :=
  View.cover_of_tiled [⟨r1_1, p0⟩] S384x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S384x1280 .f32) (harg1 : arg1.IsWhole) (arg2 : Memref sig .tc .vmem S384x1280 .i8) (harg2 : arg2.IsWhole) (arg3 : Memref sig .tc .vmem S384x1 .f32) (harg3 : arg3.IsWhole)
    (x0 : Vec F S384x1280 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1_out_quant i arg1 harg1 arg2 harg2 arg3 harg3) K := by
  simp only [cc1_out_quant_eq_skeleton]; unfold cc1_out_quant_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- After the body at point `t`, window 1's buffer holds the codes of that point's rows. -/
theorem after1_1 (c : Dev nD) (t : Fin cfg1.N) : (dat1 V c).after 1 t = out1_1 (iblk1 V c 0 t) := by dsimp only [dat1]
/-- After the body at point `t`, window 2's buffer holds the scales of that point's rows. -/
theorem after1_2 (c : Dev nD) (t : Fin cfg1.N) : (dat1 V c).after 2 t = out1_2 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions
end Cert.Kernel.Whole

end
-- ==== Proof.KernelRun.lean ====
/- The run of the whole program: its host stretches and its two calls in order, from the launch to the return. -/
module

public import proofs.«01_k».proof.Proof.KernelAttend
public import proofs.«01_k».proof.Proof.KernelOutQuant
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
/-- Host stretch 0 writes no buffer but those of its list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10, main_v11, main_v12]
/-- Host stretch 1 writes no buffer but those of its list. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v14, main_v15, main_v16, main_v17, main_v18, main_v19, main_v20, main_v21]
/-- Host stretch 2 writes no buffer but those of its list. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The contents at the launch are the memory's own. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments hold what they held at the launch, before the attention call. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- The table of lengths as the first call finds it (there is one core). -/
def lens : (pcfg0 (F := F)).Adm := ⟨fun k => V1 m ρ 0 (pre0.ref k), trivial⟩
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) (lens m ρ) c).arrAt w (cfg0 (lens m ρ)).N
/-- After the attention call each window's array holds what the call leaves in it. -/
theorem W2_arr (c : Dev nD) (w : Fin 12) :
    W2 m ρ c (Proc.devRef .tc (Pipeline.arrRef spec0 w)) = (dat0 (V1 m ρ) (lens m ρ) c).arrAt w (cfg0 (lens m ρ)).N := by
  unfold W2; exact Pipeline.withArrays_arr spec0 (launch0 (F := F)).win.arr_inj c _ _ w
/-- After the attention call a buffer that is no window's array holds what it held before the call. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin 12, Pipeline.arrRef spec0 w = r → (spec0 w).isOut = false) :
    W2 m ρ c (Proc.devRef .tc r) = W1 m ρ c (Proc.devRef .tc r) := by
  by_cases hw : ∃ w : Fin 12, Pipeline.arrRef spec0 w = r
  · obtain ⟨w, rfl⟩ := hw
    exact (W2_arr m ρ c w).trans (((dat0 (V1 m ρ) (lens m ρ) c).arrAt_in w (h w rfl) _).trans (A_eq0 (V1 m ρ) (lens m ρ) c w))
  · exact W2_of_ne m ρ c r fun w e => hw ⟨w, e⟩
/-- Every argument among region 0's arrays is an input window's (checked: each argument against each window). -/
theorem argsIn0 : ∀ a ∈ argRefs, ∀ w : Fin 12, Pipeline.arrRef spec0 w = a → (spec0 w).isOut = false :=
  ListAll.forall_mem_of_all_decide (by decide +kernel)
/-- The arguments hold what they held at the launch, after the attention call. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin 12) : (dat0 (V1 m ρ) (lens m ρ) c).arrAt w (cfg0 (lens m ρ)).N = V2 m ρ c (Pipeline.arrRef spec0 w) :=
  (W2_arr m ρ c w).symm
/-- After the attention call the buffers outside the windows' arrays are as before it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments hold what they held at the launch, before the quantiser call. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- After the quantiser call each window's array holds what the call leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 (launch1 (F := F)).win.arr_inj c _ _ w
/-- After the quantiser call a buffer that is no window's array holds what it held before the call. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments hold what they held at the launch, after the quantiser call. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- After the quantiser call the buffers outside the windows' arrays are as before it. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments hold what they held at the launch, at the return. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- At the return argument 0 holds what it held at the launch. -/
theorem W5_main_arg0 (c : Dev nD) : W5 m ρ c (Proc.devRef .tc main_arg0) = m ((c : Thread nD τ).loc main_arg0) :=
  W5_args m ρ c main_arg0 (by decide)
/-- At the return argument 1 holds what it held at the launch. -/
theorem W5_main_arg1 (c : Dev nD) : W5 m ρ c (Proc.devRef .tc main_arg1) = m ((c : Thread nD τ).loc main_arg1) :=
  W5_args m ρ c main_arg1 (by decide)
/-- At the return argument 2 holds what it held at the launch. -/
theorem W5_main_arg2 (c : Dev nD) : W5 m ρ c (Proc.devRef .tc main_arg2) = m ((c : Thread nD τ).loc main_arg2) :=
  W5_args m ρ c main_arg2 (by decide)
/-- At the return argument 3 holds what it held at the launch. -/
theorem W5_main_arg3 (c : Dev nD) : W5 m ρ c (Proc.devRef .tc main_arg3) = m ((c : Thread nD τ).loc main_arg3) :=
  W5_args m ρ c main_arg3 (by decide)
/-- At the return argument 4 holds what it held at the launch. -/
theorem W5_main_arg4 (c : Dev nD) : W5 m ρ c (Proc.devRef .tc main_arg4) = m ((c : Thread nD τ).loc main_arg4) :=
  W5_args m ρ c main_arg4 (by decide)
/-- At the return argument 5 holds what it held at the launch. -/
theorem W5_main_arg5 (c : Dev nD) : W5 m ρ c (Proc.devRef .tc main_arg5) = m ((c : Thread nD τ).loc main_arg5) :=
  W5_args m ρ c main_arg5 (by decide)
/-- At the return argument 6 holds what it held at the launch. -/
theorem W5_main_arg6 (c : Dev nD) : W5 m ρ c (Proc.devRef .tc main_arg6) = m ((c : Thread nD τ).loc main_arg6) :=
  W5_args m ρ c main_arg6 (by decide)
/-- At the return argument 7 holds what it held at the launch. -/
theorem W5_main_arg7 (c : Dev nD) : W5 m ρ c (Proc.devRef .tc main_arg7) = m ((c : Thread nD τ).loc main_arg7) :=
  W5_args m ρ c main_arg7 (by decide)

/-! ## The proof data family and the thread state -/

/-- The prefetched tables' contents: the first call's table as it finds it; the second call has none. -/
abbrev adm : (p : Fin 2) → (pcfgs (F := F) p).Adm
  | ⟨0, _⟩ => lens m ρ
  | ⟨1, _⟩ => cfg1.toPCfg_adm
/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) (lens m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

/-- The table a core's buffers hold at the first call's entry is `lens`: there is one core. -/
theorem table_lens (c : Dev nD) :
    (Pipeline.prefHeld pre0 c (fun _ => fullShare) (fun k => V1 m ρ c (pre0.ref k)) : sProp 𝕄)
      = Pipeline.prefHeld pre0 c (fun _ => fullShare) (lens m ρ).1 := by
  have h : c = 0 := Subsingleton.elim _ _
  subst h
  rfl

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) (lens m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop((∃ r, prngReg c r) ∗ Pipeline.prefHeld pre0 c (fun _ => fullShare) (lens m ρ).1)
  Z c := Pipeline.unscopedRestP (Ix := Unit) (Name := ℕ) (U := UR sig nD τ) (Lvl := ℕ) pre0 spec0 c (V1 m ρ c)
  hentry c := by
    have hT := table_lens m ρ c
    rw [Pipeline.ownSems0_none]
    have hsplit := Pipeline.arrays_of_unscopedBufs (p := 0) (pcfgs (F := F)) (adm m ρ) (pdats m ρ) (launch0 (F := F)).win (launch0 (F := F)).arr_whole c
      ((pdats m ρ 0 c).share_full fun _ => rfl) (V1 m ρ c) (A_eq0 (V1 m ρ) (lens m ρ) c)
    rw [Pipeline.unscopedBufs_held, Pipeline.unscopedRest_split (launch0 (F := F)).pre] at hsplit
    iintro ⟨⟨Hub, Hp, HO⟩, -, -⟩
    ihave H := hsplit $$ Hub
    icases H with ⟨Ha, HT, Hrest⟩
    imodintro
    isplitl [Ha]; · iexact Ha
    isplitl [HT]; · iapply (BI.BIBase.Entails.of_eq hT); iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.ΦA spec0 c ∗ Pipeline.prefHeld pre0 c (fun _ => fullShare) (lens m ρ).1) from rfl]
    unfold Pipeline.ΦA
    iintro ⟨Hp, HT, Hr⟩
    isplitl [Hr Hp]
    · isplitl [Hr]; · iexact Hr
      iexact Hp
    iexact HT
  hout c := by
    rw [Pipeline.ownSems0_none, show (pdats m ρ 0 c).Φ (Fin.last _)
      = iprop(Pipeline.ΦA spec0 c ∗ Pipeline.prefHeld pre0 c (fun _ => fullShare) (lens m ρ).1) from rfl]
    unfold Pipeline.ΦA
    iintro ⟨⟨Hr, Hp⟩, HT⟩
    isplitl [Hp HT]
    · isplitl [Hp]; · iexact Hp
      iexact HT
    isplitr; · iempintro
    iexact Hr
  hexit c := by
    have hT := table_lens m ρ c
    have hjoin := Pipeline.unscopedBufs_of_arrays (p := 0) (pcfgs (F := F)) (adm m ρ) (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · (cfg0 (lens m ρ)).N) (hF0 m ρ c) (hrest0 m ρ c)
    rw [Pipeline.unscopedBufs_held, Pipeline.unscopedRest_split (launch0 (F := F)).pre] at hjoin
    iintro ⟨Ha, HO, ⟨HY, HT⟩, Hrest⟩
    imodintro
    isplitl [Ha HT Hrest]
    · iapply hjoin
      isplitl [Ha]; · iexact Ha
      isplitl [HT]; · iapply (BI.BIBase.Entails.of_eq hT.symm); iexact HT
      iexact Hrest
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters, every weakly fair execution of @main terminates, nothing faulting,
    and every final state has every buffer of @main at the last boundary's contents `W5` and every semaphore counter at zero. -/
theorem whole_run : θ_run defs (onTc (τ := τ) (main (F := F))) ⟨m, fun _ => 0, ρ⟩ (fun r =>
      (∀ (c : Dev nD) (b : DevRef τ sig), b ∈ Pipeline.ucRefs τ sig → r.2.mem (c, b) = W5 m ρ c b) ∧ r.2.sem = fun _ => 0) :=
  Pipeline.θ_run_regions_kit_sems (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

/-- The run with @main's arguments read off: they end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c)⟩, h.2⟩) (whole_run m ρ)

end Cert.Kernel.Whole

end
-- ==== Proof.Spec.lean ====
/- The operation's mathematics on extended reals, one entry at a time: the quantiser of a row and the attention of one
   query row. The two sides of the value claim are each read into these functions. -/
module

public import Idealize.ShloMosaic.Lib.Pointwise

@[expose] public section

noncomputable section

namespace Cert.Spec

open Idealize.ShloMosaic

/-! ## The quantiser -/

/-- A row's largest magnitude. -/
def rowAmax {n : ℕ} (x : Fin n → EReal) : EReal :=
  Finset.fold max (Ideal.ofBits .f32 0xFF800000#32) (fun k => FloatOps.absf (F := Ideal) (φ := .f32) (x k)) Finset.univ

/-- A row's scale: its largest magnitude over 127, and 1 for a row of zeros. -/
def rowScale {n : ℕ} (x : Fin n → EReal) : EReal :=
  if rowAmax x = 0 then 1 else Ideal.div (rowAmax x) (Ideal.ofBits .f32 0x42FE0000#32)

/-- An entry over its row's scale, rounded to the nearest integer and clipped to [-127, 127]. -/
def rounded (x s : EReal) : EReal :=
  min (Ideal.ofBits .f32 0x42FE0000#32) (max (Ideal.ofBits .f32 0xC2FE0000#32) (Ideal.liftRound Ideal.roundHalfEven (Ideal.div x s)))

/-- The 8-bit code of an entry. -/
def code (x s : EReal) : BitVec 8 := FloatOps.fptosi (F := Ideal) (φ := .f32) 8 (rounded x s)

/-- The literal 127. -/
theorem ofBits_127 : Ideal.ofBits .f32 0x42FE0000#32 = ((127 : ℝ) : EReal) := by
  simp [Ideal.ofBits, Ideal.ieee, -EReal.coe_mul]; norm_num

/-- The literal -127. -/
theorem ofBits_neg127 : Ideal.ofBits .f32 0xC2FE0000#32 = ((-127 : ℝ) : EReal) := by
  simp [Ideal.ofBits, Ideal.ieee, -EReal.coe_mul]; norm_num

/-- The clip's result is an integer between -127 and 127. -/
theorem rounded_eq_int (x s : EReal) : ∃ z : ℤ, -127 ≤ z ∧ z ≤ 127 ∧ rounded x s = ((z : ℝ) : EReal) := by
  unfold rounded
  rw [ofBits_127, ofBits_neg127]
  induction Ideal.div x s with
  | bot =>
    refine ⟨-127, by norm_num, by norm_num, ?_⟩
    rw [Ideal.liftRound_bot, max_eq_left bot_le, min_eq_right (EReal.coe_le_coe_iff.mpr (by norm_num))]
    norm_num
  | top =>
    refine ⟨127, by norm_num, by norm_num, ?_⟩
    rw [Ideal.liftRound_top, max_eq_right le_top, min_eq_left le_top]
    norm_num
  | coe r =>
    refine ⟨min 127 (max (-127) (Ideal.roundHalfEven r)), by omega, by omega, ?_⟩
    rw [Ideal.liftRound_coe]
    push_cast
    rfl

/-- Reading a code back as a float gives the rounded entry: the code holds it exactly. -/
theorem sitofp_code (x s : EReal) : FloatOps.sitofp (F := Ideal) .bf16 (code x s) = rounded x s := by
  obtain ⟨z, h1, h2, hz⟩ := rounded_eq_int x s
  unfold code
  rw [hz]
  show (((Ideal.fptosi 8 ((z : ℝ) : EReal)).toInt : ℝ) : EReal) = _
  have hc : Ideal.toIntClamped (-(2 ^ (8 - 1) : ℕ)) ((2 ^ (8 - 1) : ℕ) - 1) ((z : ℝ) : EReal) = z := by
    rw [Ideal.toIntClamped_coe]
    simp only [Int.floor_intCast, Int.ceil_intCast, ite_self]
    norm_num
    omega
  rw [Ideal.fptosi, hc, BitVec.toInt_ofInt]
  congr 2
  unfold Int.bmod
  norm_num
  omega

/-! ## A maximum along the last axis, at any extents -/

/-- Along the last of three axes. -/
theorem rowMax3 {a b c : ℕ} (src : FVec Ideal ⟨3, ![a, b, c]⟩ .f32) (w : BitVec FTy.f32.bits)
    (h : Shape.Reduces (⟨3, ![a, b, c]⟩ : Shape) [2] ⟨2, ![a, b]⟩) (hφ : FKind.Formats .f32) (hacc : w = FKind.maximumf.neutral .f32 hφ)
    (i : Fin a) (j : Fin b) :
    multiReduction .maximumf [2] ⟨2, ![a, b]⟩ src w h hφ hacc (ix2 i j)
      = Finset.fold max (Ideal.ofBits .f32 w) (fun k : Fin c => src (ix3 i j k)) Finset.univ := by
  rw [Ideal.multiReduction_maximumf_single]
  refine congrArg (fun f => Finset.fold max (Ideal.ofBits .f32 w) f Finset.univ) (funext fun k => congrArg src (funext fun q => Fin.ext ?_))
  match q with
  | ⟨0, _⟩ => rfl
  | ⟨1, _⟩ => rfl
  | ⟨2, _⟩ => rfl

/-- Along the last of four axes. -/
theorem rowMax4 {a b c d : ℕ} (src : FVec Ideal ⟨4, ![a, b, c, d]⟩ .f32) (w : BitVec FTy.f32.bits)
    (h : Shape.Reduces (⟨4, ![a, b, c, d]⟩ : Shape) [3] ⟨3, ![a, b, c]⟩) (hφ : FKind.Formats .f32) (hacc : w = FKind.maximumf.neutral .f32 hφ)
    (i : Fin a) (j : Fin b) (k : Fin c) :
    multiReduction .maximumf [3] ⟨3, ![a, b, c]⟩ src w h hφ hacc (ix3 i j k)
      = Finset.fold max (Ideal.ofBits .f32 w) (fun l : Fin d => src (ix4 i j k l)) Finset.univ := by
  rw [Ideal.multiReduction_maximumf_single]
  refine congrArg (fun f => Finset.fold max (Ideal.ofBits .f32 w) f Finset.univ) (funext fun l => congrArg src (funext fun q => Fin.ext ?_))
  match q with
  | ⟨0, _⟩ => rfl
  | ⟨1, _⟩ => rfl
  | ⟨2, _⟩ => rfl
  | ⟨3, _⟩ => rfl

/-! ## The attention of one query row -/

/-- The score against the cached key at position `t`, whose codes are `k` and whose scale is `ks`; positions at or past
    the length `n` are masked. -/
def scoreC (q : Fin 64 → EReal) (k : Fin 64 → BitVec 8) (ks : EReal) (n : BitVec 32) (t : ℕ) : EReal :=
  Scalar.select (IntOp.cmpi .slt (BitVec.ofNat 32 t) n)
    ((∑ x, q x * FloatOps.sitofp (F := Ideal) .bf16 (k x)) * (ks * Ideal.ofBits .f32 0x3E000000#32)) (Ideal.ofBits .f32 0xFF800000#32)

/-- The score against a new key, whose rounded entries are `k` and whose scale is `ks`; `vis` says whether the query sees it. -/
def scoreN (vis : BitVec 1) (q k : Fin 64 → EReal) (ks : EReal) : EReal :=
  Scalar.select vis ((∑ x, q x * k x) * (ks * Ideal.ofBits .f32 0x3E000000#32)) (Ideal.ofBits .f32 0xFF800000#32)

/-- The largest of the row's scores. -/
def smax (sc : Fin 2048 → EReal) (sn : Fin 6 → EReal) : EReal :=
  max (Finset.fold max (Ideal.ofBits .f32 0xFF800000#32) sc Finset.univ) (Finset.fold max (Ideal.ofBits .f32 0xFF800000#32) sn Finset.univ)

/-- One over the sum of the row's exponentials. -/
def inv (sc : Fin 2048 → EReal) (sn : Fin 6 → EReal) : EReal :=
  Ideal.div 1 (∑ x, Ideal.exp (sc x - smax sc sn) + ∑ x, Ideal.exp (sn x - smax sc sn))

/-- The weight of a score `s` whose value has scale `vs`. -/
def weight (sc : Fin 2048 → EReal) (sn : Fin 6 → EReal) (s vs : EReal) : EReal :=
  Ideal.exp (s - smax sc sn) * inv sc sn * vs

/-- One output entry: the weighed cached values (codes `vc`, scales `vs`) plus the weighed new values. -/
def mixed (sc : Fin 2048 → EReal) (sn : Fin 6 → EReal) (vc : Fin 2048 → BitVec 8) (vs : Fin 2048 → EReal) (vn vns : Fin 6 → EReal) : EReal :=
  ∑ x, weight sc sn (sc x) (vs x) * FloatOps.sitofp (F := Ideal) .bf16 (vc x) + ∑ x, weight sc sn (sn x) (vns x) * vn x

end Cert.Spec

end
-- ==== Proof.KernelIdealAttend.lean ====
/- The first call of the program, `attend`: what its body leaves in each result's block, and that the body does so at
   every grid point, with the table of lengths held. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule of the call's result windows, and its body at a point -/

/-- Window 7 (result 0 (%9#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%9#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%9#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 (result 3 (%9#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 4 (%9#4)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

section Regions
-- the TensorCore's buffer contents when the call is entered, and the contents of its table: what the call's half of
-- the run is stated at
variable (V : (c : Dev nD) → (b : Ref sig .tc) → Buf (Elt F) ((c : Thread nD τ).loc b)) (a : (pcfg0 (F := F)).Adm)

/-! # REGION 0 of @main: custom_call 0, `cc0_attend` (pipeline 0), at the entry contents `V` -/

/-! ## The windows' blocks -/

/-- Window `w`'s block at point `t`, read off its array as the region finds it (`V`). -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x4x6x64 := Rect.unit (s := S1x4x6x64) ![0, 0, 0, 0] S1x4x6x64.size inb_S1x4x6x64_S1x4x6x64_0_0_0_0
abbrev r0_1 : Rect S1x4x6x1 := Rect.unit (s := S1x4x6x1) ![0, 0, 0, 0] S1x4x6x1.size inb_S1x4x6x1_S1x4x6x1_0_0_0_0
abbrev r0_2 : Rect S1x4x30x64 := Rect.unit (s := S1x4x30x64) ![0, 0, 0, 0] S1x1x30x64.size inb_S1x4x30x64_S1x1x30x64_0_0_0_0
abbrev r0_3 : Rect S1x4x64x2048 := Rect.unit (s := S1x4x64x2048) ![0, 0, 0, 0] S1x1x64x2048.size inb_S1x4x64x2048_S1x1x64x2048_0_0_0_0
abbrev r0_4 : Rect S1x4x2048 := Rect.unit (s := S1x4x2048) ![0, 0, 0] S1x1x2048.size inb_S1x4x2048_S1x1x2048_0_0_0
abbrev r0_5 : Rect S1x4x30x64 := Rect.unit (s := S1x4x30x64) ![0, 1, 0, 0] S1x1x30x64.size inb_S1x4x30x64_S1x1x30x64_0_1_0_0
abbrev r0_6 : Rect S1x4x64x2048 := Rect.unit (s := S1x4x64x2048) ![0, 1, 0, 0] S1x1x64x2048.size inb_S1x4x64x2048_S1x1x64x2048_0_1_0_0
abbrev r0_7 : Rect S1x4x2048 := Rect.unit (s := S1x4x2048) ![0, 1, 0] S1x1x2048.size inb_S1x4x2048_S1x1x2048_0_1_0
abbrev r0_8 : Rect S1x4x30x64 := Rect.unit (s := S1x4x30x64) ![0, 2, 0, 0] S1x1x30x64.size inb_S1x4x30x64_S1x1x30x64_0_2_0_0
abbrev r0_9 : Rect S1x4x64x2048 := Rect.unit (s := S1x4x64x2048) ![0, 2, 0, 0] S1x1x64x2048.size inb_S1x4x64x2048_S1x1x64x2048_0_2_0_0
abbrev r0_10 : Rect S1x4x2048 := Rect.unit (s := S1x4x2048) ![0, 2, 0] S1x1x2048.size inb_S1x4x2048_S1x1x2048_0_2_0
abbrev r0_11 : Rect S1x4x30x64 := Rect.unit (s := S1x4x30x64) ![0, 3, 0, 0] S1x1x30x64.size inb_S1x4x30x64_S1x1x30x64_0_3_0_0
abbrev r0_12 : Rect S1x4x64x2048 := Rect.unit (s := S1x4x64x2048) ![0, 3, 0, 0] S1x1x64x2048.size inb_S1x4x64x2048_S1x1x64x2048_0_3_0_0
abbrev r0_13 : Rect S1x4x2048 := Rect.unit (s := S1x4x2048) ![0, 3, 0] S1x1x2048.size inb_S1x4x2048_S1x1x2048_0_3_0

/-! ## What the body leaves in each output window's buffer -/

/-! ### One head's attention

    The body spells the same attention four times, once per head; here it is stated once, of the head's blocks: `xq` the
    queries, `xk`/`xv` the cached codes, `xks`/`xvs` their scales, `valid` the mask of the cached positions, `causal` the mask
    of the new ones, `kn`/`vn` the codes of the new keys and values and `kns`/`vns` their scales. -/

/-- The mask of the cached positions: those before the sequence's length. -/
def validOf (n : Elt F .i32) : IVec S1x2048 1 := k0_pay14 n

/-- The mask of the new positions: a query sees the new keys up to its own position. -/
def causal : IVec S30x6 1 :=
  k0_pay17 (iota .tc S30x6 32 [0] iota_S30x6_d0_w32) 5#32 k0_pay15 k0_pay16

/-- The codes of the new values, as floats. -/
def vcodes (x : Vec F S1x4x6x64 .bf16) : FVec F S4x6x64 .f32 := k0_pay9 (k0_pay7 x) k0_pay8

/-- The scores against the cached keys. -/
def scoresC (xq : Vec F S1x1x30x64 .bf16) (xk : Vec F S1x1x64x2048 .i8) (xks : Vec F S1x1x2048 .f32) (valid : IVec S1x2048 1) : FVec F S30x2048 .f32 :=
  select (broadcastTo S30x2048 (shapeCast S1x2048 valid shapeCasts_S1x2048_S1x2048) broadcasts_S1x2048_S30x2048)
    (mulf (matmul dot_S30x64_S64x2048_S30x2048_1_0_0_1_n_n none (shapeCast S30x64 xq shapeCasts_S1x1x30x64_S30x64 : FVec F S30x64 .bf16)
        (sitofp .bf16 (shapeCast S64x2048 xk shapeCasts_S1x1x64x2048_S64x2048 : IVec S64x2048 8)) (constant S30x2048 .f32 0x00000000#32))
      (broadcastTo S30x2048 (mulf (shapeCast S1x2048 xks shapeCasts_S1x1x2048_S1x2048) (broadcast S1x2048 (Scalar.ofBits .f32 0x3E000000#32))) broadcasts_S1x2048_S30x2048))
    (broadcast S30x2048 (Scalar.ofBits .f32 0xFF800000#32))

/-- The scores against the new keys. -/
def scoresN (xq : Vec F S1x1x30x64 .bf16) (causal : IVec S30x6 1) (kn : FVec F S1x6x64 .f32) (kns : FVec F S1x6x1 .f32) : FVec F S30x6 .f32 :=
  select causal
    (mulf (matmul dot_S30x64_S6x64_S30x6_1_1_0_0_n_n none (shapeCast S30x64 xq shapeCasts_S1x1x30x64_S30x64 : FVec F S30x64 .bf16)
        (truncf .bf16 (shapeCast S6x64 kn shapeCasts_S1x6x64_S6x64) bitsLt_bf16_f32) (constant S30x6 .f32 0x00000000#32))
      (broadcastTo S30x6 (mulf (transpose S1x6 [1, 0] (shapeCast S6x1 kns shapeCasts_S1x6x1_S6x1) transposes_S6x1_p1_0_S1x6) (broadcast S1x6 (Scalar.ofBits .f32 0x3E000000#32))) broadcasts_S1x6_S30x6))
    (broadcast S30x6 (Scalar.ofBits .f32 0xFF800000#32))

/-- Each row's largest score. -/
def rowMax (sc : FVec F S30x2048 .f32) (sn : FVec F S30x6 .f32) : FVec F S30x1 .f32 :=
  maximumf (shapeCast S30x1 (multiReduction .maximumf [1] S30 sc 0xFF800000#32 reduces_S30x2048_S30 (.inl rfl) rfl) shapeCasts_S30_S30x1)
    (shapeCast S30x1 (multiReduction .maximumf [1] S30 sn 0xFF800000#32 reduces_S30x6_S30 (.inl rfl) rfl) shapeCasts_S30_S30x1)

/-- The exponentials of the cached scores. -/
def expC (sc : FVec F S30x2048 .f32) (mx : FVec F S30x1 .f32) : FVec F S30x2048 .f32 := exp (subf sc (broadcastTo S30x2048 mx broadcasts_S30x1_S30x2048))

/-- The exponentials of the new scores. -/
def expN (sn : FVec F S30x6 .f32) (mx : FVec F S30x1 .f32) : FVec F S30x6 .f32 := exp (subf sn (broadcastTo S30x6 mx broadcasts_S30x1_S30x6))

/-- One over each row's sum. -/
def rowInv (ec : FVec F S30x2048 .f32) (en : FVec F S30x6 .f32) : FVec F S30x1 .f32 :=
  divf (broadcast S30x1 (Scalar.ofBits .f32 0x3F800000#32))
    (addf (shapeCast S30x1 (multiReduction .add [1] S30 ec 0x00000000#32 reduces_S30x2048_S30 (.inl rfl) rfl) shapeCasts_S30_S30x1)
      (shapeCast S30x1 (multiReduction .add [1] S30 en 0x00000000#32 reduces_S30x6_S30 (.inl rfl) rfl) shapeCasts_S30_S30x1))

/-- The cached values weighed, plus the new values weighed. -/
def mix (ec : FVec F S30x2048 .f32) (en : FVec F S30x6 .f32) (inv : FVec F S30x1 .f32) (xv : Vec F S1x1x64x2048 .i8) (xvs : Vec F S1x1x2048 .f32)
    (vn : FVec F S1x6x64 .f32) (vns : FVec F S1x6x1 .f32) : FVec F S30x64 .f32 :=
  addf
    (matmul dot_S30x2048_S64x2048_S30x64_1_1_0_0_n_n none
      (truncf .bf16 (mulf (mulf ec (broadcastTo S30x2048 inv broadcasts_S30x1_S30x2048)) (broadcastTo S30x2048 (shapeCast S1x2048 xvs shapeCasts_S1x1x2048_S1x2048) broadcasts_S1x2048_S30x2048)) bitsLt_bf16_f32)
      (sitofp .bf16 (shapeCast S64x2048 xv shapeCasts_S1x1x64x2048_S64x2048 : IVec S64x2048 8)) (constant S30x64 .f32 0x00000000#32))
    (matmul dot_S30x6_S6x64_S30x64_1_0_0_1_n_n none
      (truncf .bf16 (mulf (mulf en (broadcastTo S30x6 inv broadcasts_S30x1_S30x6)) (broadcastTo S30x6 (transpose S1x6 [1, 0] (shapeCast S6x1 vns shapeCasts_S1x6x1_S6x1) transposes_S6x1_p1_0_S1x6) broadcasts_S1x6_S30x6)) bitsLt_bf16_f32)
      (truncf .bf16 (shapeCast S6x64 vn shapeCasts_S1x6x64_S6x64) bitsLt_bf16_f32) (constant S30x64 .f32 0x00000000#32))

/-- The weighed values of one head, from its scores. -/
def headMix (sc : FVec F S30x2048 .f32) (sn : FVec F S30x6 .f32) (xv : Vec F S1x1x64x2048 .i8) (xvs : Vec F S1x1x2048 .f32)
    (vn : FVec F S1x6x64 .f32) (vns : FVec F S1x6x1 .f32) : FVec F S30x64 .f32 :=
  mix (expC sc (rowMax sc sn)) (expN sn (rowMax sc sn)) (rowInv (expC sc (rowMax sc sn)) (expN sn (rowMax sc sn))) xv xvs vn vns

/-- The block one head's store writes. -/
def headOut (xq : Vec F S1x1x30x64 .bf16) (xk xv : Vec F S1x1x64x2048 .i8) (xks xvs : Vec F S1x1x2048 .f32) (valid : IVec S1x2048 1)
    (causal : IVec S30x6 1) (kn : FVec F S1x6x64 .f32) (kns : FVec F S1x6x1 .f32) (vn : FVec F S1x6x64 .f32) (vns : FVec F S1x6x1 .f32) :
    FVec F S1x1x30x64 .f32 :=
  shapeCast S1x1x30x64 (headMix (scoresC xq xk xks valid) (scoresN xq causal kn kns) xv xvs vn vns) shapeCasts_S30x64_S1x1x30x64

/-- Window 7's staging buffer after the body: the attention of the four heads, the four stores last first; `n` the
    sequence's length, the word the body loads from the table. -/
def out0_7 (n : Elt F .i32) (x0 : Vec F S1x4x30x64 .bf16) (x1 : Vec F S1x4x6x64 .bf16) (x2 : Vec F S1x4x6x64 .bf16) (x3 : Vec F S1x4x64x2048 .i8) (x4 : Vec F S1x4x64x2048 .i8) (x5 : Vec F S1x4x2048 .f32) (x6 : Vec F S1x4x2048 .f32) : Vec F S1x4x30x64 .f32 :=
  View.canon [⟨r0_11, headOut (View.ld x0 r0_11) (View.ld x3 r0_12) (View.ld x4 r0_12) (View.ld x5 r0_13) (View.ld x6 r0_13) (validOf n) causal
      (extractStridedSlice S1x6x64 ![3, 0, 0] (k0_pay4 (View.ld x1 r0_0)) slices_S4x6x64_o3_0_0_S1x6x64) (extractStridedSlice S1x6x1 ![3, 0, 0] (k0_pay3 (View.ld x1 r0_0)) slices_S4x6x1_o3_0_0_S1x6x1)
      (extractStridedSlice S1x6x64 ![3, 0, 0] (vcodes (View.ld x2 r0_0)) slices_S4x6x64_o3_0_0_S1x6x64) (extractStridedSlice S1x6x1 ![3, 0, 0] (k0_pay6 (View.ld x2 r0_0)) slices_S4x6x1_o3_0_0_S1x6x1)⟩,
    ⟨r0_8, headOut (View.ld x0 r0_8) (View.ld x3 r0_9) (View.ld x4 r0_9) (View.ld x5 r0_10) (View.ld x6 r0_10) (validOf n) causal
      (extractStridedSlice S1x6x64 ![2, 0, 0] (k0_pay4 (View.ld x1 r0_0)) slices_S4x6x64_o2_0_0_S1x6x64) (extractStridedSlice S1x6x1 ![2, 0, 0] (k0_pay3 (View.ld x1 r0_0)) slices_S4x6x1_o2_0_0_S1x6x1)
      (extractStridedSlice S1x6x64 ![2, 0, 0] (vcodes (View.ld x2 r0_0)) slices_S4x6x64_o2_0_0_S1x6x64) (extractStridedSlice S1x6x1 ![2, 0, 0] (k0_pay6 (View.ld x2 r0_0)) slices_S4x6x1_o2_0_0_S1x6x1)⟩,
    ⟨r0_5, headOut (View.ld x0 r0_5) (View.ld x3 r0_6) (View.ld x4 r0_6) (View.ld x5 r0_7) (View.ld x6 r0_7) (validOf n) causal
      (extractStridedSlice S1x6x64 ![1, 0, 0] (k0_pay4 (View.ld x1 r0_0)) slices_S4x6x64_o1_0_0_S1x6x64) (extractStridedSlice S1x6x1 ![1, 0, 0] (k0_pay3 (View.ld x1 r0_0)) slices_S4x6x1_o1_0_0_S1x6x1)
      (extractStridedSlice S1x6x64 ![1, 0, 0] (vcodes (View.ld x2 r0_0)) slices_S4x6x64_o1_0_0_S1x6x64) (extractStridedSlice S1x6x1 ![1, 0, 0] (k0_pay6 (View.ld x2 r0_0)) slices_S4x6x1_o1_0_0_S1x6x1)⟩,
    ⟨r0_2, headOut (View.ld x0 r0_2) (View.ld x3 r0_3) (View.ld x4 r0_3) (View.ld x5 r0_4) (View.ld x6 r0_4) (validOf n) causal
      (extractStridedSlice S1x6x64 ![0, 0, 0] (k0_pay4 (View.ld x1 r0_0)) slices_S4x6x64_o0_0_0_S1x6x64) (extractStridedSlice S1x6x1 ![0, 0, 0] (k0_pay3 (View.ld x1 r0_0)) slices_S4x6x1_o0_0_0_S1x6x1)
      (extractStridedSlice S1x6x64 ![0, 0, 0] (vcodes (View.ld x2 r0_0)) slices_S4x6x64_o0_0_0_S1x6x64) (extractStridedSlice S1x6x1 ![0, 0, 0] (k0_pay6 (View.ld x2 r0_0)) slices_S4x6x1_o0_0_0_S1x6x1)⟩]

/-- Window 8's staging buffer after the body: the codes of the new keys. -/
def out0_8 (x1 : Vec F S1x4x6x64 .bf16) : Vec F S1x4x6x64 .i8 :=
  View.canon [⟨r0_0, k0_pay10 (k0_pay4 (View.ld x1 r0_0))⟩]

/-- Window 9's staging buffer after the body: the scales of the new keys. -/
def out0_9 (x1 : Vec F S1x4x6x64 .bf16) : Vec F S1x4x6x1 .f32 :=
  View.canon [⟨r0_1, k0_pay12 (k0_pay3 (View.ld x1 r0_0))⟩]

/-- Window 10's staging buffer after the body: the codes of the new values. -/
def out0_10 (x2 : Vec F S1x4x6x64 .bf16) : Vec F S1x4x6x64 .i8 :=
  View.canon [⟨r0_0, k0_pay11 (k0_pay7 (View.ld x2 r0_0)) (k0_pay8 (F := F))⟩]

/-- Window 11's staging buffer after the body: the scales of the new values. -/
def out0_11 (x2 : Vec F S1x4x6x64 .bf16) : Vec F S1x4x6x1 .f32 :=
  View.canon [⟨r0_1, k0_pay13 (k0_pay6 (View.ld x2 r0_0))⟩]

/-- Its stores tile the buffer (checked by evaluation), so they cover it. -/
theorem cover0_7 (p0 : Vec F S1x1x30x64 .f32) (p1 : Vec F S1x1x30x64 .f32) (p2 : Vec F S1x1x30x64 .f32) (p3 : Vec F S1x1x30x64 .f32) (y : S1x4x30x64.Idx) :
    ∃ pc ∈ ([⟨r0_11, p0⟩, ⟨r0_8, p1⟩, ⟨r0_5, p2⟩, ⟨r0_2, p3⟩] : List (View.Piece (Elt F) S1x4x30x64 .f32)), y ∈ pc.1.set :=
  View.cover_of_tiled [⟨r0_11, p0⟩, ⟨r0_8, p1⟩, ⟨r0_5, p2⟩, ⟨r0_2, p3⟩] S1x1x30x64.size (by rfl) y

/-- Its stores tile the buffer (checked by evaluation), so they cover it. -/
theorem cover0_8 (p0 : Vec F S1x4x6x64 .i8) (y : S1x4x6x64.Idx) :
    ∃ pc ∈ ([⟨r0_0, p0⟩] : List (View.Piece (Elt F) S1x4x6x64 .i8)), y ∈ pc.1.set :=
  View.cover_of_tiled [⟨r0_0, p0⟩] S1x4x6x64.size (by rfl) y

/-- Its stores tile the buffer (checked by evaluation), so they cover it. -/
theorem cover0_9 (p0 : Vec F S1x4x6x1 .f32) (y : S1x4x6x1.Idx) :
    ∃ pc ∈ ([⟨r0_1, p0⟩] : List (View.Piece (Elt F) S1x4x6x1 .f32)), y ∈ pc.1.set :=
  View.cover_of_tiled [⟨r0_1, p0⟩] S1x4x6x1.size (by rfl) y

/-- Its stores tile the buffer (checked by evaluation), so they cover it. -/
theorem cover0_10 (p0 : Vec F S1x4x6x64 .i8) (y : S1x4x6x64.Idx) :
    ∃ pc ∈ ([⟨r0_0, p0⟩] : List (View.Piece (Elt F) S1x4x6x64 .i8)), y ∈ pc.1.set :=
  View.cover_of_tiled [⟨r0_0, p0⟩] S1x4x6x64.size (by rfl) y

/-- Its stores tile the buffer (checked by evaluation), so they cover it. -/
theorem cover0_11 (p0 : Vec F S1x4x6x1 .f32) (y : S1x4x6x1.Idx) :
    ∃ pc ∈ ([⟨r0_1, p0⟩] : List (View.Piece (Elt F) S1x4x6x1 .f32)), y ∈ pc.1.set :=
  View.cover_of_tiled [⟨r0_1, p0⟩] S1x4x6x1.size (by rfl) y

/-! ## The table of lengths -/

/-- The word of the table `xt` the body loads at grid point `i`: the length of sequence `i`. -/
def wordAt (xt : S512.Idx → Elt F .i32) (i : grid0.Coords) : Elt F .i32 :=
  xt ((Rect.unit (s := S512) (k0_off1 i) S1.size (k0_off1_inb i)).emb (Shape.Idx.first (numel1_S1.symm ▸ Nat.one_pos)))

/-- The table's buffer on core `c`, held whole at the contents `xt`. -/
def tablePt (c : Dev nD) (xt : S512.Idx → Elt F .i32) : sProp 𝕄 :=
  (Memref.whole main_arg7).view.loc (c : Thread nD τ) ↦{fullShare} xt

/-- The prefetched tables of the region are the one table, held whole. -/
theorem table_held (c : Dev nD) (pf : pre0.Contents (Elt F)) :
    (Pipeline.prefHeld pre0 c (fun _ => fullShare) pf : sProp 𝕄) = tablePt c (pf 0) := by
  unfold Pipeline.prefHeld
  rw [show (Finset.univ : Finset (Fin 1)) = {(0 : Fin 1)} from by decide, bigSep_singleton]
  rfl

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1x4x30x64 .bf16) (harg2 : arg2.IsWhole) (arg3 : Memref sig .tc .vmem S1x4x6x64 .bf16) (harg3 : arg3.IsWhole) (arg4 : Memref sig .tc .vmem S1x4x6x64 .bf16) (harg4 : arg4.IsWhole) (arg5 : Memref sig .tc .vmem S1x4x64x2048 .i8) (harg5 : arg5.IsWhole) (arg6 : Memref sig .tc .vmem S1x4x64x2048 .i8) (harg6 : arg6.IsWhole) (arg7 : Memref sig .tc .vmem S1x4x2048 .f32) (harg7 : arg7.IsWhole) (arg8 : Memref sig .tc .vmem S1x4x2048 .f32) (harg8 : arg8.IsWhole) (arg9 : Memref sig .tc .vmem S1x4x30x64 .f32) (harg9 : arg9.IsWhole) (arg10 : Memref sig .tc .vmem S1x4x6x64 .i8) (harg10 : arg10.IsWhole) (arg11 : Memref sig .tc .vmem S1x4x6x1 .f32) (harg11 : arg11.IsWhole) (arg12 : Memref sig .tc .vmem S1x4x6x64 .i8) (harg12 : arg12.IsWhole) (arg13 : Memref sig .tc .vmem S1x4x6x1 .f32) (harg13 : arg13.IsWhole)
    (x0 : Vec F S1x4x30x64 .bf16) (x1 : Vec F S1x4x6x64 .bf16) (x2 : Vec F S1x4x6x64 .bf16) (x3 : Vec F S1x4x64x2048 .i8) (x4 : Vec F S1x4x64x2048 .i8) (x5 : Vec F S1x4x2048 .f32) (x6 : Vec F S1x4x2048 .f32) (xt : S512.Idx → Elt F .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tablePt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 (wordAt xt i) x0 x1 x2 x3 x4 x5 x6) ∗ owns (c : Thread nD τ) arg10 fullShare (out0_8 x1) ∗ owns (c : Thread nD τ) arg11 fullShare (out0_9 x1) ∗ owns (c : Thread nD τ) arg12 fullShare (out0_10 x2) ∗ owns (c : Thread nD τ) arg13 fullShare (out0_11 x2) ∗ tablePt c xt) -∗ K ⟨⟩))
      ⊢ wp frame (wpE (defs₀ (F := F)) Variants.none c none) E (cc0_attend i (Memref.whole main_arg7) (Memref.isWhole_whole _) arg2 harg2 arg3 harg3 arg4 harg4 arg5 harg5 arg6 harg6 arg7 harg7 arg8 harg8 arg9 harg9 arg10 harg10 arg11 harg11 arg12 harg12 arg13 harg13) K := by
  simp only [cc0_attend_eq_skeleton]; unfold cc0_attend_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns tablePt
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, HT, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexact HT

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => out0_7 (wordAt (a.1 0) (grid0.coords t)) (iblk0 V a c 0 t) (iblk0 V a c 1 t) (iblk0 V a c 2 t) (iblk0 V a c 3 t) (iblk0 V a c 4 t) (iblk0 V a c 5 t) (iblk0 V a c 6 t)
    | ⟨8, _⟩ => out0_8 (iblk0 V a c 1 t)
    | ⟨9, _⟩ => out0_9 (iblk0 V a c 1 t)
    | ⟨10, _⟩ => out0_10 (iblk0 V a c 2 t)
    | ⟨11, _⟩ => out0_11 (iblk0 V a c 2 t)
  Φ _ := iprop(Pipeline.ΦA spec0 c ∗ Pipeline.prefHeld pre0 c (fun _ => fullShare) a.1)
  q _ := fullShare
  owed _ := 0

/-- The proof data's arrays are the region-entry contents, by projecting the definition (`dsimp`): a region record cites
    this for its arrays rather than have Lean unfold `V`, the fold through @main up to the region's entry. -/
theorem A_eq0 (c : Dev nD) (w : Fin (cfg0 a).W) : (dat0 V a c).A w = V c (Pipeline.arrRef spec0 w) := by
  dsimp only [dat0]

/-- What the body leaves, window by window (the proof data's `match` reduced by `dsimp`, never `rfl`: Lib/Pipeline.lean `Dat`). -/
theorem after0_0 (c : Dev nD) (t : Fin (cfg0 a).N) : (dat0 V a c).after 0 t = iblk0 V a c 0 t := by dsimp only [dat0]; rfl
/-- After the body at point `t`, window 1's buffer still holds its input block. -/
theorem after0_1 (c : Dev nD) (t : Fin (cfg0 a).N) : (dat0 V a c).after 1 t = iblk0 V a c 1 t := by dsimp only [dat0]; rfl
/-- After the body at point `t`, window 2's buffer still holds its input block. -/
theorem after0_2 (c : Dev nD) (t : Fin (cfg0 a).N) : (dat0 V a c).after 2 t = iblk0 V a c 2 t := by dsimp only [dat0]; rfl
/-- After the body at point `t`, window 3's buffer still holds its input block. -/
theorem after0_3 (c : Dev nD) (t : Fin (cfg0 a).N) : (dat0 V a c).after 3 t = iblk0 V a c 3 t := by dsimp only [dat0]; rfl
/-- After the body at point `t`, window 4's buffer still holds its input block. -/
theorem after0_4 (c : Dev nD) (t : Fin (cfg0 a).N) : (dat0 V a c).after 4 t = iblk0 V a c 4 t := by dsimp only [dat0]; rfl
/-- After the body at point `t`, window 5's buffer still holds its input block. -/
theorem after0_5 (c : Dev nD) (t : Fin (cfg0 a).N) : (dat0 V a c).after 5 t = iblk0 V a c 5 t := by dsimp only [dat0]; rfl
/-- After the body at point `t`, window 6's buffer still holds its input block. -/
theorem after0_6 (c : Dev nD) (t : Fin (cfg0 a).N) : (dat0 V a c).after 6 t = iblk0 V a c 6 t := by dsimp only [dat0]; rfl
/-- After the body at point `t`, window 7's buffer holds the attention of the four heads of that point's blocks. -/
theorem after0_7 (c : Dev nD) (t : Fin (cfg0 a).N) : (dat0 V a c).after 7 t = out0_7 (wordAt (a.1 0) (grid0.coords t)) (iblk0 V a c 0 t) (iblk0 V a c 1 t) (iblk0 V a c 2 t) (iblk0 V a c 3 t) (iblk0 V a c 4 t) (iblk0 V a c 5 t) (iblk0 V a c 6 t) := by dsimp only [dat0]; rfl
/-- After the body at point `t`, window 8's buffer holds the codes of the new keys of that point's blocks. -/
theorem after0_8 (c : Dev nD) (t : Fin (cfg0 a).N) : (dat0 V a c).after 8 t = out0_8 (iblk0 V a c 1 t) := by dsimp only [dat0]; rfl
/-- After the body at point `t`, window 9's buffer holds the scales of the new keys of that point's blocks. -/
theorem after0_9 (c : Dev nD) (t : Fin (cfg0 a).N) : (dat0 V a c).after 9 t = out0_9 (iblk0 V a c 1 t) := by dsimp only [dat0]; rfl
/-- After the body at point `t`, window 10's buffer holds the codes of the new values of that point's blocks. -/
theorem after0_10 (c : Dev nD) (t : Fin (cfg0 a).N) : (dat0 V a c).after 10 t = out0_10 (iblk0 V a c 2 t) := by dsimp only [dat0]; rfl
/-- After the body at point `t`, window 11's buffer holds the scales of the new values of that point's blocks. -/
theorem after0_11 (c : Dev nD) (t : Fin (cfg0 a).N) : (dat0 V a c).after 11 t = out0_11 (iblk0 V a c 2 t) := by dsimp only [dat0]; rfl

/-- Each input's current staging buffer holds its block at every point, fetched there or not (`beforeK_W_of`). -/
theorem before0_0 (c : Dev nD) (t : Fin (cfg0 a).N) (d) : (dat0 V a c).before 0 t d = iblk0 V a c 0 t :=
  before0_0_of V a (dat0 V a c) (A_eq0 V a c 0) (after0_0 V a c) t d
/-- Before the body at point `t`, window 1's buffer holds its input block. -/
theorem before0_1 (c : Dev nD) (t : Fin (cfg0 a).N) (d) : (dat0 V a c).before 1 t d = iblk0 V a c 1 t :=
  before0_1_of V a (dat0 V a c) (A_eq0 V a c 1) (after0_1 V a c) t d
/-- Before the body at point `t`, window 2's buffer holds its input block. -/
theorem before0_2 (c : Dev nD) (t : Fin (cfg0 a).N) (d) : (dat0 V a c).before 2 t d = iblk0 V a c 2 t :=
  before0_2_of V a (dat0 V a c) (A_eq0 V a c 2) (after0_2 V a c) t d
/-- Before the body at point `t`, window 3's buffer holds its input block. -/
theorem before0_3 (c : Dev nD) (t : Fin (cfg0 a).N) (d) : (dat0 V a c).before 3 t d = iblk0 V a c 3 t :=
  before0_3_of V a (dat0 V a c) (A_eq0 V a c 3) (after0_3 V a c) t d
/-- Before the body at point `t`, window 4's buffer holds its input block. -/
theorem before0_4 (c : Dev nD) (t : Fin (cfg0 a).N) (d) : (dat0 V a c).before 4 t d = iblk0 V a c 4 t :=
  before0_4_of V a (dat0 V a c) (A_eq0 V a c 4) (after0_4 V a c) t d
/-- Before the body at point `t`, window 5's buffer holds its input block. -/
theorem before0_5 (c : Dev nD) (t : Fin (cfg0 a).N) (d) : (dat0 V a c).before 5 t d = iblk0 V a c 5 t :=
  before0_5_of V a (dat0 V a c) (A_eq0 V a c 5) (after0_5 V a c) t d
/-- Before the body at point `t`, window 6's buffer holds its input block. -/
theorem before0_6 (c : Dev nD) (t : Fin (cfg0 a).N) (d) : (dat0 V a c).before 6 t d = iblk0 V a c 6 t :=
  before0_6_of V a (dat0 V a c) (A_eq0 V a c 6) (after0_6 V a c) t d

/-! ## The body obligation, at a generic point -/

/-- What the body is called with at point `t` (Lib/Pipeline.lean `BodyObligation`'s precondition, the windows one by one), -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d))
    ∗ (∃ d, owns (c : Thread nD τ) (st0_8 a t) fullShare ((dat0 V a c).before 8 t d))
    ∗ (∃ d, owns (c : Thread nD τ) (st0_9 a t) fullShare ((dat0 V a c).before 9 t d))
    ∗ (∃ d, owns (c : Thread nD τ) (st0_10 a t) fullShare ((dat0 V a c).before 10 t d))
    ∗ (∃ d, owns (c : Thread nD τ) (st0_11 a t) fullShare ((dat0 V a c).before 11 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t)
    ∗ owns (c : Thread nD τ) (st0_8 a t) fullShare ((dat0 V a c).after 8 t)
    ∗ owns (c : Thread nD τ) (st0_9 a t) fullShare ((dat0 V a c).after 9 t)
    ∗ owns (c : Thread nD τ) (st0_10 a t) fullShare ((dat0 V a c).after 10 t)
    ∗ owns (c : Thread nD τ) (st0_11 a t) fullShare ((dat0 V a c).after 11 t))

/-- The body at any point: the inputs' memrefs hold their blocks (`before0_W`), so `sound_kernel0` applies; the invariant and
    the core's `owes` pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4, before0_5, before0_6]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7, after0_8, after0_9, after0_10, after0_11]
  rw [show (dat0 V a c).Φ t.castSucc = iprop(Pipeline.ΦA spec0 c ∗ Pipeline.prefHeld pre0 c (fun _ => fullShare) a.1) from rfl, table_held]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V a c 0 t) (iblk0 V a c 1 t) (iblk0 V a c 2 t) (iblk0 V a c 3 t) (iblk0 V a c 4 t) (iblk0 V a c 5 t) (iblk0 V a c 6 t) (a.1 0) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HT]; · iexact HT
  iintro ⟨H0, H1, H2, H3, H4, H5, H6, H7, H8, H9, H10, H11, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row0 (t : Fin (cfg0 a).N) :
    defs₀ (F := F) .tc (cfg0 a).body ((cfg0 a).bodyArgs t ((cfg0 a).slots t)) = bodyAt0 a t := by
  unfold defs₀; rw [Defs.onTc_tc]

/-- The library's body obligation, at every point: the body's triple restated (Lib/Pipeline/FrameBody.lean `triple_restated`). -/
theorem body_obligation0 (c : Dev nD) : BodyObligation (dat0 (F := F) V a c) (defs₀ (F := F)) Variants.none () Set.univ := fun t => by
  rw [bigSep_W0, bigSep_W0, defs₀_row0]
  exact triple_restated (sound_body0 V a c t) rfl .rfl fun _ => .rfl
end Regions
end Cert.KernelIdeal.Whole

end
-- ==== Proof.KernelIdealOutQuant.lean ====
/- The second call of the program, `out_quant`: what its body leaves in each result's block, and that the body does so at
   every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the call is entered: what the call's half of the run is stated at
variable (V : (c : Dev nD) → (b : Ref sig .tc) → Buf (Elt F) ((c : Thread nD τ).loc b))

/-! # REGION 1 of @main: custom_call 1, `cc1_out_quant` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S384x1280 := Rect.unit (s := S384x1280) ![0, 0] S384x1280.size inb_S384x1280_S384x1280_0_0
abbrev r1_1 : Rect S384x1 := Rect.unit (s := S384x1) ![0, 0] S384x1.size inb_S384x1_S384x1_0_0

/-! ## What the body leaves in each output window's buffer -/

/-- Window 1's staging buffer after the body, from the input windows' blocks: its 1 store as pieces, LAST
    FIRST (Lib/Pipeline/FrameBody.lean `View.canon`; the payloads are the skeleton's). -/
def out1_1 (x0 : Vec F S384x1280 .f32) : Vec F S384x1280 .i8 :=
  View.canon [⟨r1_0, k1_pay3 (View.ld x0 r1_0)⟩]

/-- Its stores tile the buffer (checked by evaluation), so they cover it. -/
theorem cover1_1 (p0 : Vec F S384x1280 .i8) (y : S384x1280.Idx) :
    ∃ pc ∈ ([⟨r1_0, p0⟩] : List (View.Piece (Elt F) S384x1280 .i8)), y ∈ pc.1.set :=
  View.cover_of_tiled [⟨r1_0, p0⟩] S384x1280.size (by rfl) y

/-- Window 2's staging buffer after the body, from the input windows' blocks: its 1 store as pieces, LAST
    FIRST (Lib/Pipeline/FrameBody.lean `View.canon`; the payloads are the skeleton's). -/
def out1_2 (x0 : Vec F S384x1280 .f32) : Vec F S384x1 .f32 :=
  View.canon [⟨r1_1, k1_pay2 (View.ld x0 r1_0)⟩]

/-- Its stores tile the buffer (checked by evaluation), so they cover it. -/
theorem cover1_2 (p0 : Vec F S384x1 .f32) (y : S384x1.Idx) :
    ∃ pc ∈ ([⟨r1_1, p0⟩] : List (View.Piece (Elt F) S384x1 .f32)), y ∈ pc.1.set :=
  View.cover_of_tiled [⟨r1_1, p0⟩] S384x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S384x1280 .f32) (harg1 : arg1.IsWhole) (arg2 : Memref sig .tc .vmem S384x1280 .i8) (harg2 : arg2.IsWhole) (arg3 : Memref sig .tc .vmem S384x1 .f32) (harg3 : arg3.IsWhole)
    (x0 : Vec F S384x1280 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1_out_quant i arg1 harg1 arg2 harg2 arg3 harg3) K := by
  simp only [cc1_out_quant_eq_skeleton]; unfold cc1_out_quant_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- After the body at point `t`, window 1's buffer holds the codes of that point's rows. -/
theorem after1_1 (c : Dev nD) (t : Fin cfg1.N) : (dat1 V c).after 1 t = out1_1 (iblk1 V c 0 t) := by dsimp only [dat1]
/-- After the body at point `t`, window 2's buffer holds the scales of that point's rows. -/
theorem after1_2 (c : Dev nD) (t : Fin cfg1.N) : (dat1 V c).after 2 t = out1_2 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions
end Cert.KernelIdeal.Whole

end
-- ==== Proof.KernelIdealRead.lean ====
/- The kernel's payloads over the extended reals, read at an index: each is the operation's mathematics of `Spec`. -/
module

public import proofs.«01_k».proof.Proof.Spec
public import proofs.«01_k».proof.Proof.KernelIdealAttend
public import proofs.«01_k».proof.Proof.KernelIdealOutQuant
public import Idealize.ShloMosaic.Lib.Pointwise

@[expose] public section

set_option maxRecDepth 16384

noncomputable section

namespace Cert.KernelIdeal.Whole

open Cert.KernelIdeal Cert.KernelIdeal.Gen
open Idealize.ShloMosaic
open Cert.Spec

/-- The scale of one new key. -/
theorem kscale_apply (x : Vec Ideal S1x4x6x64 .bf16) (h : Fin 4) (j : Fin 6) (z : Fin 1) :
    k0_pay3 x (ix3 h j z) = rowScale fun d : Fin 64 => x (ix4 0 h j d) := by
  unfold rowScale rowAmax
  pointwise [k0_pay3, k0_pay2]

/-- The rounded entries of one new key. -/
theorem kcode_apply (x : Vec Ideal S1x4x6x64 .bf16) (h : Fin 4) (j : Fin 6) (d : Fin 64) :
    k0_pay4 x (ix3 h j d) = rounded (x (ix4 0 h j d)) (rowScale fun d : Fin 64 => x (ix4 0 h j d)) := by
  rw [← kscale_apply x h j 0]
  unfold rounded
  pointwise [k0_pay4, k0_pay2]

/-- The scale of one new value. -/
theorem vscale_apply (x : Vec Ideal S1x4x6x64 .bf16) (h : Fin 4) (j : Fin 6) (z : Fin 1) :
    k0_pay6 x (ix3 h j z) = rowScale fun d : Fin 64 => x (ix4 0 h j d) := by
  unfold rowScale rowAmax
  pointwise [k0_pay6, k0_pay5]

/-- The rounded entries of one new value. -/
theorem vcode_apply (x : Vec Ideal S1x4x6x64 .bf16) (h : Fin 4) (j : Fin 6) (d : Fin 64) :
    vcodes x (ix3 h j d) = rounded (x (ix4 0 h j d)) (rowScale fun d : Fin 64 => x (ix4 0 h j d)) := by
  rw [← vscale_apply x h j 0]
  unfold rounded
  pointwise [vcodes, k0_pay9, k0_pay8, k0_pay7, k0_pay5]

/-- The stored codes of the new keys. -/
theorem kstore_apply (x : Vec Ideal S1x4x6x64 .bf16) (z : Fin 1) (h : Fin 4) (j : Fin 6) (d : Fin 64) :
    k0_pay10 (F := Ideal) (k0_pay4 x) (ix4 z h j d) = code (x (ix4 0 h j d)) (rowScale fun d : Fin 64 => x (ix4 0 h j d)) := by
  unfold code
  rw [← kcode_apply x h j d]
  pointwise [k0_pay10]

/-- The stored codes of the new values. -/
theorem vstore_apply (x : Vec Ideal S1x4x6x64 .bf16) (z : Fin 1) (h : Fin 4) (j : Fin 6) (d : Fin 64) :
    k0_pay11 (F := Ideal) (k0_pay7 x) k0_pay8 (ix4 z h j d) = code (x (ix4 0 h j d)) (rowScale fun d : Fin 64 => x (ix4 0 h j d)) := by
  unfold code
  rw [← vcode_apply x h j d]
  pointwise [k0_pay11, vcodes]

/-- The stored scales of the new keys. -/
theorem kscaleStore_apply (x : Vec Ideal S1x4x6x64 .bf16) (z : Fin 1) (h : Fin 4) (j : Fin 6) (z' : Fin 1) :
    k0_pay12 (F := Ideal) (k0_pay3 x) (ix4 z h j z') = rowScale fun d : Fin 64 => x (ix4 0 h j d) := by
  rw [← kscale_apply x h j 0]
  pointwise [k0_pay12]

/-- The stored scales of the new values. -/
theorem vscaleStore_apply (x : Vec Ideal S1x4x6x64 .bf16) (z : Fin 1) (h : Fin 4) (j : Fin 6) (z' : Fin 1) :
    k0_pay13 (F := Ideal) (k0_pay6 x) (ix4 z h j z') = rowScale fun d : Fin 64 => x (ix4 0 h j d) := by
  rw [← vscale_apply x h j 0]
  pointwise [k0_pay13]

/-- The scores against the cached keys. -/
theorem scoresC_apply (xq : Vec Ideal S1x1x30x64 .bf16) (xk : Vec Ideal S1x1x64x2048 .i8) (xks : Vec Ideal S1x1x2048 .f32)
    (n : Elt Ideal .i32) (r : Fin 30) (t : Fin 2048) :
    scoresC xq xk xks (validOf n) (ix2 r t)
      = scoreC (fun x => xq (ix4 0 0 r x)) (fun x => xk (ix4 0 0 x t)) (xks (ix3 0 0 t)) n t.val := by
  unfold scoreC
  pointwise [scoresC, validOf, k0_pay14]

/-- The scores against the new keys. -/
theorem scoresN_apply (xq : Vec Ideal S1x1x30x64 .bf16) (c : IVec S30x6 1) (kn : FVec Ideal S1x6x64 .f32) (kns : FVec Ideal S1x6x1 .f32)
    (r : Fin 30) (t : Fin 6) :
    scoresN xq c kn kns (ix2 r t)
      = scoreN (c (ix2 r t)) (fun x => xq (ix4 0 0 r x)) (fun x => kn (ix3 0 t x)) (kns (ix3 0 t 0)) := by
  unfold scoreN
  pointwise [scoresN]

/-- The weighed values. -/
theorem headMix_apply (sc : FVec Ideal S30x2048 .f32) (sn : FVec Ideal S30x6 .f32) (xv : Vec Ideal S1x1x64x2048 .i8) (xvs : Vec Ideal S1x1x2048 .f32)
    (vn : FVec Ideal S1x6x64 .f32) (vns : FVec Ideal S1x6x1 .f32) (r : Fin 30) (d : Fin 64) :
    headMix sc sn xv xvs vn vns (ix2 r d)
      = mixed (fun t => sc (ix2 r t)) (fun t => sn (ix2 r t)) (fun t => xv (ix4 0 0 d t)) (fun t => xvs (ix3 0 0 t))
          (fun t => vn (ix3 0 t d)) (fun t => vns (ix3 0 t 0)) := by
  unfold mixed weight Spec.inv smax
  pointwise [headMix, mix, expC, expN, rowMax, rowInv]

/-- One head's output block. -/
theorem headOut_apply (xq : Vec Ideal S1x1x30x64 .bf16) (xk xv : Vec Ideal S1x1x64x2048 .i8) (xks xvs : Vec Ideal S1x1x2048 .f32) (n : Elt Ideal .i32)
    (c : IVec S30x6 1) (kn : FVec Ideal S1x6x64 .f32) (kns : FVec Ideal S1x6x1 .f32) (vn : FVec Ideal S1x6x64 .f32) (vns : FVec Ideal S1x6x1 .f32)
    (z z' : Fin 1) (r : Fin 30) (d : Fin 64) :
    headOut xq xk xv xks xvs (validOf n) c kn kns vn vns (ix4 z z' r d)
      = mixed (fun t => scoreC (fun x => xq (ix4 0 0 r x)) (fun x => xk (ix4 0 0 x t)) (xks (ix3 0 0 t)) n t.val)
          (fun t => scoreN (c (ix2 r t)) (fun x => xq (ix4 0 0 r x)) (fun x => kn (ix3 0 t x)) (kns (ix3 0 t 0)))
          (fun t => xv (ix4 0 0 d t)) (fun t => xvs (ix3 0 0 t)) (fun t => vn (ix3 0 t d)) (fun t => vns (ix3 0 t 0)) := by
  have h : headOut xq xk xv xks xvs (validOf n) c kn kns vn vns (ix4 z z' r d)
      = headMix (scoresC xq xk xks (validOf n)) (scoresN xq c kn kns) xv xvs vn vns (ix2 r d) := by
    unfold headOut
    pointwise
  rw [h, headMix_apply]
  simp only [scoresC_apply, scoresN_apply]

/-- The scale of one output row. -/
theorem oscale_apply (x : Vec Ideal S384x1280 .f32) (p : Fin 384) (z : Fin 1) :
    k1_pay2 x (ix2 p z) = rowScale fun k : Fin 1280 => x (ix2 p k) := by
  unfold rowScale rowAmax
  pointwise [k1_pay2, k1_pay1]

/-- The codes of one output row. -/
theorem ocode_apply (x : Vec Ideal S384x1280 .f32) (p : Fin 384) (k : Fin 1280) :
    k1_pay3 x (ix2 p k) = code (x (ix2 p k)) (rowScale fun k : Fin 1280 => x (ix2 p k)) := by
  rw [← oscale_apply x p 0]
  unfold code rounded
  pointwise [k1_pay3, k1_pay1]

end Cert.KernelIdeal.Whole

end
-- ==== Proof.AttendBlock.lean ====
/- What one block of the attention call leaves in its result buffers, entry by entry. -/
module

public import proofs.«01_k».proof.Proof.KernelIdealRead
public import Idealize.ShloMosaic.Lib.Pipeline.ValueKit
public import Idealize.ShloMosaic.Lib.Pointwise

@[expose] public section

set_option maxRecDepth 16384

noncomputable section

namespace Cert.KernelIdeal.Whole

open Cert.KernelIdeal Cert.KernelIdeal.Gen
open Idealize.ShloMosaic
open Cert.Spec

/-- The attention of head `h`'s query row `r` at coordinate `d`, from one sequence's blocks: `n` its length, `x0` the queries,
    `x1`, `x2` the new keys and values, `x3`, `x4` the cached codes, `x5`, `x6` their scales. -/
def blockAttn (n : Elt Ideal .i32) (x0 : Vec Ideal S1x4x30x64 .bf16) (x1 x2 : Vec Ideal S1x4x6x64 .bf16) (x3 x4 : Vec Ideal S1x4x64x2048 .i8)
    (x5 x6 : Vec Ideal S1x4x2048 .f32) (h : Fin 4) (r : Fin 30) (d : Fin 64) : EReal :=
  mixed (fun t => scoreC (fun x => x0 (ix4 0 h r x)) (fun x => x3 (ix4 0 h x t)) (x5 (ix3 0 h t)) n t.val)
    (fun t => scoreN (causal (ix2 r t)) (fun x => x0 (ix4 0 h r x)) (fun x => rounded (x1 (ix4 0 h t x)) (rowScale fun d : Fin 64 => x1 (ix4 0 h t d)))
      (rowScale fun d : Fin 64 => x1 (ix4 0 h t d)))
    (fun t => x4 (ix4 0 h d t)) (fun t => x6 (ix3 0 h t)) (fun t => rounded (x2 (ix4 0 h t d)) (rowScale fun d : Fin 64 => x2 (ix4 0 h t d)))
    (fun t => rowScale fun d : Fin 64 => x2 (ix4 0 h t d))

/-- A load of one head out of a block of rank four. -/
theorem ld_head4 {e : EltTy} {n m : ℕ} (x : Vec Ideal ⟨4, ![1, 4, n, m]⟩ e) (g : ℕ) (hg : g < 4)
    (inb : ∀ a, (![0, g, 0, 0] : Fin 4 → ℕ) a + (![1, 1, n, m] : Fin 4 → ℕ) a ≤ (![1, 4, n, m] : Fin 4 → ℕ) a) (i : Fin n) (j : Fin m) :
    View.ld x (Rect.unit (s := ⟨4, ![1, 4, n, m]⟩) ![0, g, 0, 0] ![1, 1, n, m] inb) (ix4 (0 : Fin 1) (0 : Fin 1) i j) = x (ix4 0 ⟨g, hg⟩ i j) :=
  View.ld_unit_apply_of x _ _ _ _ _ fun a => by
    match a with
    | ⟨0, _⟩ => rfl
    | ⟨1, _⟩ => rfl
    | ⟨2, _⟩ => exact (Nat.zero_add _).symm
    | ⟨3, _⟩ => exact (Nat.zero_add _).symm

/-- A load of one head out of a block of rank three. -/
theorem ld_head3 {e : EltTy} {n : ℕ} (x : Vec Ideal ⟨3, ![1, 4, n]⟩ e) (g : ℕ) (hg : g < 4)
    (inb : ∀ a, (![0, g, 0] : Fin 3 → ℕ) a + (![1, 1, n] : Fin 3 → ℕ) a ≤ (![1, 4, n] : Fin 3 → ℕ) a) (i : Fin n) :
    View.ld x (Rect.unit (s := ⟨3, ![1, 4, n]⟩) ![0, g, 0] ![1, 1, n] inb) (ix3 (0 : Fin 1) (0 : Fin 1) i) = x (ix3 0 ⟨g, hg⟩ i) :=
  View.ld_unit_apply_of x _ _ _ _ _ fun a => by
    match a with
    | ⟨0, _⟩ => rfl
    | ⟨1, _⟩ => rfl
    | ⟨2, _⟩ => exact (Nat.zero_add _).symm

/-- One head's slice of an array of rank three. -/
theorem slice_head {n m : ℕ} (x : FVec Ideal ⟨3, ![4, n, m]⟩ .f32) (g : ℕ) (hg : g < 4) (h : (⟨3, ![4, n, m]⟩ : Shape).Slices ![g, 0, 0] ⟨3, ![1, n, m]⟩)
    (i : Fin n) (j : Fin m) : extractStridedSlice ⟨3, ![1, n, m]⟩ ![g, 0, 0] x h (ix3 0 i j) = x (ix3 ⟨g, hg⟩ i j) :=
  congrArg x (funext fun a => Fin.ext (by
    match a with
    | ⟨0, _⟩ => rfl
    | ⟨1, _⟩ => exact Nat.zero_add _
    | ⟨2, _⟩ => exact Nat.zero_add _))

/-- What the store of head `g` writes. -/
theorem head_at (n : Elt Ideal .i32) (x0 : Vec Ideal S1x4x30x64 .bf16) (x1 x2 : Vec Ideal S1x4x6x64 .bf16) (x3 x4 : Vec Ideal S1x4x64x2048 .i8)
    (x5 x6 : Vec Ideal S1x4x2048 .f32) (g : ℕ) (hg : g < 4)
    (iq : ∀ a, (![0, g, 0, 0] : Fin 4 → ℕ) a + S1x1x30x64.size a ≤ S1x4x30x64.size a)
    (ik : ∀ a, (![0, g, 0, 0] : Fin 4 → ℕ) a + S1x1x64x2048.size a ≤ S1x4x64x2048.size a)
    (is : ∀ a, (![0, g, 0] : Fin 3 → ℕ) a + S1x1x2048.size a ≤ S1x4x2048.size a)
    (sk : S4x6x64.Slices ![g, 0, 0] S1x6x64) (ss : S4x6x1.Slices ![g, 0, 0] S1x6x1) (z z' : Fin 1) (r : Fin 30) (d : Fin 64) :
    headOut (View.ld x0 (Rect.unit (s := S1x4x30x64) ![0, g, 0, 0] S1x1x30x64.size iq)) (View.ld x3 (Rect.unit (s := S1x4x64x2048) ![0, g, 0, 0] S1x1x64x2048.size ik))
        (View.ld x4 (Rect.unit (s := S1x4x64x2048) ![0, g, 0, 0] S1x1x64x2048.size ik)) (View.ld x5 (Rect.unit (s := S1x4x2048) ![0, g, 0] S1x1x2048.size is))
        (View.ld x6 (Rect.unit (s := S1x4x2048) ![0, g, 0] S1x1x2048.size is)) (validOf n) causal
        (extractStridedSlice S1x6x64 ![g, 0, 0] (k0_pay4 x1) sk) (extractStridedSlice S1x6x1 ![g, 0, 0] (k0_pay3 x1) ss)
        (extractStridedSlice S1x6x64 ![g, 0, 0] (vcodes x2) sk) (extractStridedSlice S1x6x1 ![g, 0, 0] (k0_pay6 x2) ss) (ix4 z z' r d)
      = blockAttn n x0 x1 x2 x3 x4 x5 x6 ⟨g, hg⟩ r d := by
  rw [headOut_apply]
  unfold blockAttn
  have e0 : ∀ x, View.ld x0 (Rect.unit (s := S1x4x30x64) ![0, g, 0, 0] S1x1x30x64.size iq) (ix4 0 0 r x) = x0 (ix4 0 ⟨g, hg⟩ r x) := fun x => ld_head4 x0 g hg iq r x
  have e3 : ∀ x t, View.ld x3 (Rect.unit (s := S1x4x64x2048) ![0, g, 0, 0] S1x1x64x2048.size ik) (ix4 0 0 x t) = x3 (ix4 0 ⟨g, hg⟩ x t) := fun x t => ld_head4 x3 g hg ik x t
  have e4 : ∀ x t, View.ld x4 (Rect.unit (s := S1x4x64x2048) ![0, g, 0, 0] S1x1x64x2048.size ik) (ix4 0 0 x t) = x4 (ix4 0 ⟨g, hg⟩ x t) := fun x t => ld_head4 x4 g hg ik x t
  have e5 : ∀ t, View.ld x5 (Rect.unit (s := S1x4x2048) ![0, g, 0] S1x1x2048.size is) (ix3 0 0 t) = x5 (ix3 0 ⟨g, hg⟩ t) := fun t => ld_head3 x5 g hg is t
  have e6 : ∀ t, View.ld x6 (Rect.unit (s := S1x4x2048) ![0, g, 0] S1x1x2048.size is) (ix3 0 0 t) = x6 (ix3 0 ⟨g, hg⟩ t) := fun t => ld_head3 x6 g hg is t
  have s1 : ∀ t x, extractStridedSlice S1x6x64 ![g, 0, 0] (k0_pay4 x1) sk (ix3 0 t x) = rounded (x1 (ix4 0 ⟨g, hg⟩ t x)) (rowScale fun d : Fin 64 => x1 (ix4 0 ⟨g, hg⟩ t d)) :=
    fun t x => (slice_head (k0_pay4 x1) g hg sk t x).trans (kcode_apply x1 ⟨g, hg⟩ t x)
  have s2 : ∀ t, extractStridedSlice S1x6x1 ![g, 0, 0] (k0_pay3 x1) ss (ix3 0 t 0) = rowScale fun d : Fin 64 => x1 (ix4 0 ⟨g, hg⟩ t d) :=
    fun t => (slice_head (k0_pay3 x1) g hg ss t 0).trans (kscale_apply x1 ⟨g, hg⟩ t 0)
  have s3 : ∀ t x, extractStridedSlice S1x6x64 ![g, 0, 0] (vcodes x2) sk (ix3 0 t x) = rounded (x2 (ix4 0 ⟨g, hg⟩ t x)) (rowScale fun d : Fin 64 => x2 (ix4 0 ⟨g, hg⟩ t d)) :=
    fun t x => (slice_head (vcodes x2) g hg sk t x).trans (vcode_apply x2 ⟨g, hg⟩ t x)
  have s4 : ∀ t, extractStridedSlice S1x6x1 ![g, 0, 0] (k0_pay6 x2) ss (ix3 0 t 0) = rowScale fun d : Fin 64 => x2 (ix4 0 ⟨g, hg⟩ t d) :=
    fun t => (slice_head (k0_pay6 x2) g hg ss t 0).trans (vscale_apply x2 ⟨g, hg⟩ t 0)
  simp only [e0, e3, e4, e5, e6, s1, s2, s3, s4]

/-- A whole load of a block of the new keys or values. -/
theorem ld_new (x : Vec Ideal S1x4x6x64 .bf16) : View.ld x r0_0 = x :=
  View.ld_unit_zero (S := S1x4x6x64) (funext fun a => by fin_cases a <;> rfl) _ x

/-- The attention's result buffer after the body. -/
theorem out0_7_apply (n : Elt Ideal .i32) (x0 : Vec Ideal S1x4x30x64 .bf16) (x1 x2 : Vec Ideal S1x4x6x64 .bf16) (x3 x4 : Vec Ideal S1x4x64x2048 .i8)
    (x5 x6 : Vec Ideal S1x4x2048 .f32) (z : Fin 1) (h : Fin 4) (r : Fin 30) (d : Fin 64) :
    out0_7 n x0 x1 x2 x3 x4 x5 x6 (ix4 z h r d) = blockAttn n x0 x1 x2 x3 x4 x5 x6 h r d := by
  unfold out0_7
  rw [ld_new, ld_new]
  refine View.canon_eq_of_allAt _ _ _ (cover0_7 _ _ _ _ _) ?_
  intro p hp x hx
  have key : ∀ (g : ℕ) (hg : g < 4) (y : S1x1x30x64.Idx) (iq : ∀ a, (![0, g, 0, 0] : Fin 4 → ℕ) a + S1x1x30x64.size a ≤ S1x4x30x64.size a)
      (P : S1x1x30x64.Idx → EReal) (hP : ∀ z z' r d, P (ix4 z z' r d) = blockAttn n x0 x1 x2 x3 x4 x5 x6 ⟨g, hg⟩ r d)
      (hy : (Rect.unit (s := S1x4x30x64) ![0, g, 0, 0] S1x1x30x64.size iq).emb y = ix4 z h r d), P y = blockAttn n x0 x1 x2 x3 x4 x5 x6 h r d := by
    intro g hg y iq P hP hy
    have h1 : g + 1 * (y 1).val = h.val := congrArg (fun i : S1x4x30x64.Idx => (i 1).val) hy
    have h2 : 0 + 1 * (y 2).val = r.val := congrArg (fun i : S1x4x30x64.Idx => (i 2).val) hy
    have h3 : 0 + 1 * (y 3).val = d.val := congrArg (fun i : S1x4x30x64.Idx => (i 3).val) hy
    have l1 : (y 1).val < 1 := (y 1).isLt
    obtain rfl : h = ⟨g, hg⟩ := Fin.ext (by show h.val = g; omega)
    obtain rfl : r = y 2 := Fin.ext (by omega)
    obtain rfl : d = y 3 := Fin.ext (by omega)
    exact (congrArg P (eq_ix4 y)).trans (hP (y 0) (y 1) (y 2) (y 3))
  simp only [List.mem_cons, List.not_mem_nil, or_false] at hp
  rcases hp with rfl | rfl | rfl | rfl
  · exact key 3 (by decide) x inb_S1x4x30x64_S1x1x30x64_0_3_0_0 _ (head_at n x0 x1 x2 x3 x4 x5 x6 3 (by decide) _ _ _ _ _) hx
  · exact key 2 (by decide) x inb_S1x4x30x64_S1x1x30x64_0_2_0_0 _ (head_at n x0 x1 x2 x3 x4 x5 x6 2 (by decide) _ _ _ _ _) hx
  · exact key 1 (by decide) x inb_S1x4x30x64_S1x1x30x64_0_1_0_0 _ (head_at n x0 x1 x2 x3 x4 x5 x6 1 (by decide) _ _ _ _ _) hx
  · exact key 0 (by decide) x inb_S1x4x30x64_S1x1x30x64_0_0_0_0 _ (head_at n x0 x1 x2 x3 x4 x5 x6 0 (by decide) _ _ _ _ _) hx

/-- The buffer of the new keys' codes after the body. -/
theorem out0_8_apply (x : Vec Ideal S1x4x6x64 .bf16) (z : Fin 1) (h : Fin 4) (j : Fin 6) (d : Fin 64) :
    out0_8 x (ix4 z h j d) = code (x (ix4 0 h j d)) (rowScale fun d : Fin 64 => x (ix4 0 h j d)) := by
  unfold out0_8
  rw [View.canon_unit_zero (funext fun a => by fin_cases a <;> rfl), ld_new]
  exact kstore_apply x z h j d

/-- The buffer of the new keys' scales after the body. -/
theorem out0_9_apply (x : Vec Ideal S1x4x6x64 .bf16) (z : Fin 1) (h : Fin 4) (j : Fin 6) (z' : Fin 1) :
    out0_9 x (ix4 z h j z') = rowScale fun d : Fin 64 => x (ix4 0 h j d) := by
  unfold out0_9
  rw [View.canon_unit_zero (funext fun a => by fin_cases a <;> rfl), ld_new]
  exact kscaleStore_apply x z h j z'

/-- The buffer of the new values' codes after the body. -/
theorem out0_10_apply (x : Vec Ideal S1x4x6x64 .bf16) (z : Fin 1) (h : Fin 4) (j : Fin 6) (d : Fin 64) :
    out0_10 x (ix4 z h j d) = code (x (ix4 0 h j d)) (rowScale fun d : Fin 64 => x (ix4 0 h j d)) := by
  unfold out0_10
  rw [View.canon_unit_zero (funext fun a => by fin_cases a <;> rfl), ld_new]
  exact vstore_apply x z h j d

/-- The buffer of the new values' scales after the body. -/
theorem out0_11_apply (x : Vec Ideal S1x4x6x64 .bf16) (z : Fin 1) (h : Fin 4) (j : Fin 6) (z' : Fin 1) :
    out0_11 x (ix4 z h j z') = rowScale fun d : Fin 64 => x (ix4 0 h j d) := by
  unfold out0_11
  rw [View.canon_unit_zero (funext fun a => by fin_cases a <;> rfl), ld_new]
  exact vscaleStore_apply x z h j z'

/-- The codes of a block of output rows. -/
theorem out1_1_apply (x : Vec Ideal S384x1280 .f32) (p : Fin 384) (k : Fin 1280) :
    out1_1 x (ix2 p k) = code (x (ix2 p k)) (rowScale fun k : Fin 1280 => x (ix2 p k)) := by
  unfold out1_1
  rw [View.canon_unit_zero (funext fun a => by fin_cases a <;> rfl), View.ld_unit_zero (S := S384x1280) (funext fun a => by fin_cases a <;> rfl) _ x]
  exact ocode_apply x p k

/-- The scales of a block of output rows. -/
theorem out1_2_apply (x : Vec Ideal S384x1280 .f32) (p : Fin 384) (z : Fin 1) :
    out1_2 x (ix2 p z) = rowScale fun k : Fin 1280 => x (ix2 p k) := by
  unfold out1_2
  rw [View.canon_unit_zero (funext fun a => by fin_cases a <;> rfl), View.ld_unit_zero (S := S384x1280) (funext fun a => by fin_cases a <;> rfl) _ x]
  exact oscale_apply x p z

end Cert.KernelIdeal.Whole

end
-- ==== Proof.AttendPlace.lean ====
/- Where the blocks of the attention call sit in their arrays, and that the result blocks cover the result arrays. -/
module

public import proofs.«01_k».proof.Proof.AttendBlock
public import Idealize.ShloMosaic.Lib.Pipeline.Covers

@[expose] public section

set_option maxRecDepth 16384

noncomputable section

namespace Cert.KernelIdeal.Whole

open Cert.KernelIdeal Cert.KernelIdeal.Gen
open Idealize.ShloMosaic Idealize.ShloMosaic.TcCoe
open Cert.Spec

variable (V : (c : Dev nD) → (b : Ref sig .tc) → Buf (Elt Ideal) ((c : Thread nD τ).loc b)) (a : (pcfg0 (F := Ideal)).Adm) (c : Dev nD)

/-! ## Where a block sits in its array -/

/-- The sequence grid point `t` works on. -/
abbrev seq (t : Fin grid0.N) : Fin 512 := grid0.coords t 0

/-- Along the sequences a block is one entry, at the point's own sequence. -/
theorem seq_block (t : Fin grid0.N) (z : Fin 1) : (BitVec.ofNat 32 (grid0.coords t 0).val).toNat * 1 + z.val = (seq t).val := by
  have h : (seq t).val < 512 := (seq t).isLt
  have hz := z.isLt
  rw [BitVec.toNat_ofNat, Nat.mod_eq_of_lt (by show (seq t).val < 2 ^ 32; omega)]
  show (seq t).val * 1 + z.val = (seq t).val
  omega

/-- Along every other axis the block is the whole axis. -/
theorem whole_block (n v : ℕ) : (0#32).toNat * n + v = v := by simp

/-- Where window 0's block at point `t` puts an index. -/
theorem emb0_0 (t : Fin grid0.N) (y : S1x4x30x64.Idx) : (((cfg0 a).win 0).blk t).view.emb y = ix4 (seq t) (y 1) (y 2) (y 3) :=
  funext fun k => Fin.ext (by
    refine (Pipeline.Window.rect_emb_val ((cfg0 a).win 0) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 1's block at point `t` puts an index. -/
theorem emb0_1 (t : Fin grid0.N) (y : S1x4x6x64.Idx) : (((cfg0 a).win 1).blk t).view.emb y = ix4 (seq t) (y 1) (y 2) (y 3) :=
  funext fun k => Fin.ext (by
    refine (Pipeline.Window.rect_emb_val ((cfg0 a).win 1) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 2's block at point `t` puts an index. -/
theorem emb0_2 (t : Fin grid0.N) (y : S1x4x6x64.Idx) : (((cfg0 a).win 2).blk t).view.emb y = ix4 (seq t) (y 1) (y 2) (y 3) :=
  funext fun k => Fin.ext (by
    refine (Pipeline.Window.rect_emb_val ((cfg0 a).win 2) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 3's block at point `t` puts an index. -/
theorem emb0_3 (t : Fin grid0.N) (y : S1x4x64x2048.Idx) : (((cfg0 a).win 3).blk t).view.emb y = ix4 (seq t) (y 1) (y 2) (y 3) :=
  funext fun k => Fin.ext (by
    refine (Pipeline.Window.rect_emb_val ((cfg0 a).win 3) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 4's block at point `t` puts an index. -/
theorem emb0_4 (t : Fin grid0.N) (y : S1x4x64x2048.Idx) : (((cfg0 a).win 4).blk t).view.emb y = ix4 (seq t) (y 1) (y 2) (y 3) :=
  funext fun k => Fin.ext (by
    refine (Pipeline.Window.rect_emb_val ((cfg0 a).win 4) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 5's block at point `t` puts an index. -/
theorem emb0_5 (t : Fin grid0.N) (y : S1x4x2048.Idx) : (((cfg0 a).win 5).blk t).view.emb y = ix3 (seq t) (y 1) (y 2) :=
  funext fun k => Fin.ext (by
    refine (Pipeline.Window.rect_emb_val ((cfg0 a).win 5) t y k rfl).trans ?_
    match k with
    | ⟨0, _⟩ => exact seq_block t (y 0)
    | ⟨1, _⟩ => exact whole_block _ _
    | ⟨2, _⟩ => exact whole_block _ _)

/-- Where window 6's block at point `t` puts an index. -/
theorem emb0_6 (t : Fin grid0.N) (y : S1x4x2048.Idx) : (((cfg0 a).win 6).blk t).view.emb y = ix3 (seq t) (y 1) (y 2) :=
  funext fun k => Fin.ext (by
    refine (Pipeline.Window.rect_emb_val ((cfg0 a).win 6) t y k rfl).trans ?_
    match k with
    | ⟨0, _⟩ => exact seq_block t (y 0)
    | ⟨1, _⟩ => exact whole_block _ _
    | ⟨2, _⟩ => exact whole_block _ _)

/-- Where window 7's block at point `t` puts an index. -/
theorem emb0_7 (t : Fin grid0.N) (y : S1x4x30x64.Idx) : (((cfg0 a).win 7).blk t).view.emb y = ix4 (seq t) (y 1) (y 2) (y 3) :=
  funext fun k => Fin.ext (by
    refine (Pipeline.Window.rect_emb_val ((cfg0 a).win 7) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 8's block at point `t` puts an index. -/
theorem emb0_8 (t : Fin grid0.N) (y : S1x4x6x64.Idx) : (((cfg0 a).win 8).blk t).view.emb y = ix4 (seq t) (y 1) (y 2) (y 3) :=
  funext fun k => Fin.ext (by
    refine (Pipeline.Window.rect_emb_val ((cfg0 a).win 8) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 9's block at point `t` puts an index. -/
theorem emb0_9 (t : Fin grid0.N) (y : S1x4x6x1.Idx) : (((cfg0 a).win 9).blk t).view.emb y = ix4 (seq t) (y 1) (y 2) (y 3) :=
  funext fun k => Fin.ext (by
    refine (Pipeline.Window.rect_emb_val ((cfg0 a).win 9) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 10's block at point `t` puts an index. -/
theorem emb0_10 (t : Fin grid0.N) (y : S1x4x6x64.Idx) : (((cfg0 a).win 10).blk t).view.emb y = ix4 (seq t) (y 1) (y 2) (y 3) :=
  funext fun k => Fin.ext (by
    refine (Pipeline.Window.rect_emb_val ((cfg0 a).win 10) t y k rfl).trans ?_
    match k with
    | ⟨0, _⟩ => exact seq_block t (y 0)
    | ⟨1, _⟩ => exact whole_block _ _
    | ⟨2, _⟩ => exact whole_block _ _
    | ⟨3, _⟩ => exact whole_block _ _)

/-- Where window 11's block at point `t` puts an index. -/
theorem emb0_11 (t : Fin grid0.N) (y : S1x4x6x1.Idx) : (((cfg0 a).win 11).blk t).view.emb y = ix4 (seq t) (y 1) (y 2) (y 3) :=
  funext fun k => Fin.ext (by
    refine (Pipeline.Window.rect_emb_val ((cfg0 a).win 11) t y k rfl).trans ?_
    match k with
    | ⟨0, _⟩ => exact seq_block t (y 0)
    | ⟨1, _⟩ => exact whole_block _ _
    | ⟨2, _⟩ => exact whole_block _ _
    | ⟨3, _⟩ => exact whole_block _ _)

/-- Window 0's block at point `t` is its array at the point's sequence. -/
theorem block0_0 (t : Fin grid0.N) (h : Fin 4) (i : Fin 30) (j : Fin 64) :
    (iblk0 V a c 0 t : Vec Ideal S1x4x30x64 .bf16) (ix4 0 h i j) = V c main_v2 (ix4 (seq t) h i j) :=
  congrArg (V c main_v2) (emb0_0 a t (ix4 0 h i j))

/-- Window 1's block at point `t` is its array at the point's sequence. -/
theorem block0_1 (t : Fin grid0.N) (h : Fin 4) (i : Fin 6) (j : Fin 64) :
    (iblk0 V a c 1 t : Vec Ideal S1x4x6x64 .bf16) (ix4 0 h i j) = V c main_v3 (ix4 (seq t) h i j) :=
  congrArg (V c main_v3) (emb0_1 a t (ix4 0 h i j))

/-- Window 2's block at point `t` is its array at the point's sequence. -/
theorem block0_2 (t : Fin grid0.N) (h : Fin 4) (i : Fin 6) (j : Fin 64) :
    (iblk0 V a c 2 t : Vec Ideal S1x4x6x64 .bf16) (ix4 0 h i j) = V c main_v4 (ix4 (seq t) h i j) :=
  congrArg (V c main_v4) (emb0_2 a t (ix4 0 h i j))

/-- Window 3's block at point `t` is its array at the point's sequence. -/
theorem block0_3 (t : Fin grid0.N) (h : Fin 4) (i : Fin 64) (j : Fin 2048) :
    (iblk0 V a c 3 t : Vec Ideal S1x4x64x2048 .i8) (ix4 0 h i j) = V c main_v5 (ix4 (seq t) h i j) :=
  congrArg (V c main_v5) (emb0_3 a t (ix4 0 h i j))

/-- Window 4's block at point `t` is its array at the point's sequence. -/
theorem block0_4 (t : Fin grid0.N) (h : Fin 4) (i : Fin 64) (j : Fin 2048) :
    (iblk0 V a c 4 t : Vec Ideal S1x4x64x2048 .i8) (ix4 0 h i j) = V c main_v6 (ix4 (seq t) h i j) :=
  congrArg (V c main_v6) (emb0_4 a t (ix4 0 h i j))

/-- Window 5's block at point `t` is its array at the point's sequence. -/
theorem block0_5 (t : Fin grid0.N) (h : Fin 4) (i : Fin 2048) :
    (iblk0 V a c 5 t : Vec Ideal S1x4x2048 .f32) (ix3 0 h i) = V c main_v7 (ix3 (seq t) h i) :=
  congrArg (V c main_v7) (emb0_5 a t (ix3 0 h i))

/-- Window 6's block at point `t` is its array at the point's sequence. -/
theorem block0_6 (t : Fin grid0.N) (h : Fin 4) (i : Fin 2048) :
    (iblk0 V a c 6 t : Vec Ideal S1x4x2048 .f32) (ix3 0 h i) = V c main_v8 (ix3 (seq t) h i) :=
  congrArg (V c main_v8) (emb0_6 a t (ix3 0 h i))

/-- The length the body loads at point `t` is the table's entry of the point's sequence. -/
theorem wordAt_apply (xt : S512.Idx → Elt Ideal .i32) (t : Fin grid0.N) : wordAt xt (grid0.coords t) = xt (ix1 (seq t)) :=
  congrArg xt (funext fun k => Fin.ext (by
    have hs : (seq t).val < 512 := (seq t).isLt
    obtain rfl : k = 0 := Subsingleton.elim (α := Fin 1) _ _
    show (BitVec.ofNat 32 (seq t).val).toNat + 1 * 0 = (seq t).val
    rw [BitVec.toNat_ofNat, Nat.mod_eq_of_lt (by omega)]
    rfl))

/-! ## The blocks cover the arrays -/

/-- Every sequence is some grid point's. -/
theorem exists_seq (b : Fin 512) : ∃ t : Fin grid0.N, seq t = b := by
  obtain ⟨t, ht⟩ := grid0.coords_surjective (fun | ⟨0, _⟩ => b)
  exact ⟨t, congrFun ht 0⟩

/-- The blocks of window 7 cover its array. -/
theorem reach0_7 (i : S512x4x30x64.Idx) : ∃ t : Fin (cfg0 a).N, ((cfg0 a).win 7).flush t = true ∧ i ∈ (((cfg0 a).win 7).blk t).view.set := by
  obtain ⟨t, ht⟩ := exists_seq (i 0)
  refine ⟨t, flush0_7 a t, ?_⟩
  have e : (((cfg0 a).win 7).blk t).view.emb (ix4 (0 : Fin 1) (i 1) (i 2) (i 3)) = i := by
    refine (emb0_7 a t _).trans (Eq.trans ?_ (eq_ix4 i).symm)
    rw [ht]; rfl
  exact Eq.mp (congrArg (· ∈ (((cfg0 a).win 7).blk t).view.set) e) ((((cfg0 a).win 7).blk t).view.emb_mem_set _)

/-- The blocks of window 8 cover its array. -/
theorem reach0_8 (i : S512x4x6x64.Idx) : ∃ t : Fin (cfg0 a).N, ((cfg0 a).win 8).flush t = true ∧ i ∈ (((cfg0 a).win 8).blk t).view.set := by
  obtain ⟨t, ht⟩ := exists_seq (i 0)
  refine ⟨t, flush0_8 a t, ?_⟩
  have e : (((cfg0 a).win 8).blk t).view.emb (ix4 (0 : Fin 1) (i 1) (i 2) (i 3)) = i := by
    refine (emb0_8 a t _).trans (Eq.trans ?_ (eq_ix4 i).symm)
    rw [ht]; rfl
  exact Eq.mp (congrArg (· ∈ (((cfg0 a).win 8).blk t).view.set) e) ((((cfg0 a).win 8).blk t).view.emb_mem_set _)

/-- The blocks of window 9 cover its array. -/
theorem reach0_9 (i : S512x4x6x1.Idx) : ∃ t : Fin (cfg0 a).N, ((cfg0 a).win 9).flush t = true ∧ i ∈ (((cfg0 a).win 9).blk t).view.set := by
  obtain ⟨t, ht⟩ := exists_seq (i 0)
  refine ⟨t, flush0_9 a t, ?_⟩
  have e : (((cfg0 a).win 9).blk t).view.emb (ix4 (0 : Fin 1) (i 1) (i 2) (i 3)) = i := by
    refine (emb0_9 a t _).trans (Eq.trans ?_ (eq_ix4 i).symm)
    rw [ht]; rfl
  exact Eq.mp (congrArg (· ∈ (((cfg0 a).win 9).blk t).view.set) e) ((((cfg0 a).win 9).blk t).view.emb_mem_set _)

/-- The blocks of window 10 cover its array. -/
theorem reach0_10 (i : S512x4x6x64.Idx) : ∃ t : Fin (cfg0 a).N, ((cfg0 a).win 10).flush t = true ∧ i ∈ (((cfg0 a).win 10).blk t).view.set := by
  obtain ⟨t, ht⟩ := exists_seq (i 0)
  refine ⟨t, flush0_10 a t, ?_⟩
  have e : (((cfg0 a).win 10).blk t).view.emb (ix4 (0 : Fin 1) (i 1) (i 2) (i 3)) = i := by
    refine (emb0_10 a t _).trans (Eq.trans ?_ (eq_ix4 i).symm)
    rw [ht]; rfl
  exact Eq.mp (congrArg (· ∈ (((cfg0 a).win 10).blk t).view.set) e) ((((cfg0 a).win 10).blk t).view.emb_mem_set _)

/-- The blocks of window 11 cover its array. -/
theorem reach0_11 (i : S512x4x6x1.Idx) : ∃ t : Fin (cfg0 a).N, ((cfg0 a).win 11).flush t = true ∧ i ∈ (((cfg0 a).win 11).blk t).view.set := by
  obtain ⟨t, ht⟩ := exists_seq (i 0)
  refine ⟨t, flush0_11 a t, ?_⟩
  have e : (((cfg0 a).win 11).blk t).view.emb (ix4 (0 : Fin 1) (i 1) (i 2) (i 3)) = i := by
    refine (emb0_11 a t _).trans (Eq.trans ?_ (eq_ix4 i).symm)
    rw [ht]; rfl
  exact Eq.mp (congrArg (· ∈ (((cfg0 a).win 11).blk t).view.set) e) ((((cfg0 a).win 11).blk t).view.emb_mem_set _)

end Cert.KernelIdeal.Whole

end
-- ==== Proof.AttendValue.lean ====
/- The attention call over the extended reals: what its five result arrays hold after the run, entry by entry. -/
module

public import proofs.«01_k».proof.Proof.AttendPlace

@[expose] public section

set_option maxRecDepth 16384

noncomputable section

namespace Cert.KernelIdeal.Whole

open Cert.KernelIdeal Cert.KernelIdeal.Gen
open Idealize.ShloMosaic Idealize.ShloMosaic.TcCoe
open Cert.Spec

variable (V : (c : Dev nD) → (b : Ref sig .tc) → Buf (Elt Ideal) ((c : Thread nD τ).loc b)) (a : (pcfg0 (F := Ideal)).Adm) (c : Dev nD)

/-- The attention of sequence `b`, head `h`, query row `r` at coordinate `d`, from whole arrays: the lengths, the queries, the new keys
    and values, the cached codes and their scales. -/
def attnAt (n : S512.Idx → Elt Ideal .i32) (q : Vec Ideal S512x4x30x64 .bf16) (kn vn : Vec Ideal S512x4x6x64 .bf16) (k v : Vec Ideal S512x4x64x2048 .i8)
    (ks vs : Vec Ideal S512x4x2048 .f32) (b : Fin 512) (h : Fin 4) (r : Fin 30) (d : Fin 64) : EReal :=
  mixed (fun t => scoreC (fun x => q (ix4 b h r x)) (fun x => k (ix4 b h x t)) (ks (ix3 b h t)) (n (ix1 b)) t.val)
    (fun t => scoreN (causal (ix2 r t)) (fun x => q (ix4 b h r x)) (fun x => rounded (kn (ix4 b h t x)) (rowScale fun d : Fin 64 => kn (ix4 b h t d)))
      (rowScale fun d : Fin 64 => kn (ix4 b h t d)))
    (fun t => v (ix4 b h d t)) (fun t => vs (ix3 b h t)) (fun t => rounded (vn (ix4 b h t d)) (rowScale fun d : Fin 64 => vn (ix4 b h t d)))
    (fun t => rowScale fun d : Fin 64 => vn (ix4 b h t d))

/-- The array of attention rows. -/
def attnArr (n : S512.Idx → Elt Ideal .i32) (q : Vec Ideal S512x4x30x64 .bf16) (kn vn : Vec Ideal S512x4x6x64 .bf16) (k v : Vec Ideal S512x4x64x2048 .i8)
    (ks vs : Vec Ideal S512x4x2048 .f32) : Vec Ideal S512x4x30x64 .f32 := fun i => attnAt n q kn vn k v ks vs (i 0) (i 1) (i 2) (i 3)

/-- The array of the codes of new keys or values. -/
def codeArr (x : Vec Ideal S512x4x6x64 .bf16) : Vec Ideal S512x4x6x64 .i8 :=
  fun i => code (x (ix4 (i 0) (i 1) (i 2) (i 3))) (rowScale fun d : Fin 64 => x (ix4 (i 0) (i 1) (i 2) d))

/-- The array of their scales. -/
def scaleArr (x : Vec Ideal S512x4x6x64 .bf16) : Vec Ideal S512x4x6x1 .f32 :=
  fun i => rowScale fun d : Fin 64 => x (ix4 (i 0) (i 1) (i 2) d)

/-- A block's attention is the arrays' attention at the block's sequence. -/
theorem blockAttn_eq (n : S512.Idx → Elt Ideal .i32) (q : Vec Ideal S512x4x30x64 .bf16) (kn vn : Vec Ideal S512x4x6x64 .bf16) (k v : Vec Ideal S512x4x64x2048 .i8)
    (ks vs : Vec Ideal S512x4x2048 .f32) (b : Fin 512) (m : Elt Ideal .i32) (x0 : Vec Ideal S1x4x30x64 .bf16) (x1 x2 : Vec Ideal S1x4x6x64 .bf16)
    (x3 x4 : Vec Ideal S1x4x64x2048 .i8) (x5 x6 : Vec Ideal S1x4x2048 .f32) (em : m = n (ix1 b)) (e0 : ∀ h i j, x0 (ix4 0 h i j) = q (ix4 b h i j))
    (e1 : ∀ h i j, x1 (ix4 0 h i j) = kn (ix4 b h i j)) (e2 : ∀ h i j, x2 (ix4 0 h i j) = vn (ix4 b h i j)) (e3 : ∀ h i j, x3 (ix4 0 h i j) = k (ix4 b h i j))
    (e4 : ∀ h i j, x4 (ix4 0 h i j) = v (ix4 b h i j)) (e5 : ∀ h i, x5 (ix3 0 h i) = ks (ix3 b h i)) (e6 : ∀ h i, x6 (ix3 0 h i) = vs (ix3 b h i))
    (h : Fin 4) (r : Fin 30) (d : Fin 64) : blockAttn m x0 x1 x2 x3 x4 x5 x6 h r d = attnAt n q kn vn k v ks vs b h r d := by
  subst em
  unfold blockAttn attnAt
  simp only [e0, e1, e2, e3, e4, e5, e6]

/-- A code of a block is the array's code at the block's sequence. -/
theorem blockCode_eq (x : Vec Ideal S512x4x6x64 .bf16) (b : Fin 512) (u : Vec Ideal S1x4x6x64 .bf16) (e : ∀ h i j, u (ix4 0 h i j) = x (ix4 b h i j))
    (h : Fin 4) (j : Fin 6) (d : Fin 64) :
    code (u (ix4 0 h j d)) (rowScale fun d : Fin 64 => u (ix4 0 h j d)) = codeArr x (ix4 b h j d) := by
  simp only [e]; rfl

/-- A scale of a block is the array's scale at the block's sequence. -/
theorem blockScale_eq (x : Vec Ideal S512x4x6x64 .bf16) (b : Fin 512) (u : Vec Ideal S1x4x6x64 .bf16) (e : ∀ h i j, u (ix4 0 h i j) = x (ix4 b h i j))
    (h : Fin 4) (j : Fin 6) (z : Fin 1) : (rowScale fun d : Fin 64 => u (ix4 0 h j d)) = scaleArr x (ix4 b h j z) := by
  simp only [e]; rfl

/-- What the body leaves of the attention at point `t`. -/
theorem point0_7 (t : Fin grid0.N) (y : S1x4x30x64.Idx) : out0_7 (wordAt (a.1 0) (grid0.coords t)) (iblk0 V a c 0 t) (iblk0 V a c 1 t) (iblk0 V a c 2 t) (iblk0 V a c 3 t) (iblk0 V a c 4 t) (iblk0 V a c 5 t) (iblk0 V a c 6 t) y
    = attnArr (a.1 0) (V c main_v2) (V c main_v3) (V c main_v4) (V c main_v5) (V c main_v6) (V c main_v7) (V c main_v8) (ix4 (seq t) (y 1) (y 2) (y 3)) := by
  refine (congrArg (out0_7 _ _ _ _ _ _ _ _) (eq_ix4 y)).trans ?_
  refine (out0_7_apply _ _ _ _ _ _ _ _ (y 0) (y 1) (y 2) (y 3)).trans ?_
  exact blockAttn_eq (a.1 0) (V c main_v2) (V c main_v3) (V c main_v4) (V c main_v5) (V c main_v6) (V c main_v7) (V c main_v8) (seq t) _ _ _ _ _ _ _ _
    (wordAt_apply (a.1 0) t) (block0_0 V a c t) (block0_1 V a c t) (block0_2 V a c t) (block0_3 V a c t) (block0_4 V a c t) (block0_5 V a c t) (block0_6 V a c t)
    (y 1) (y 2) (y 3)

/-- The array of attention rows after the call. -/
theorem array0_7 : (dat0 V a c).arrAt 7 (cfg0 a).N = attnArr (a.1 0) (V c main_v2) (V c main_v3) (V c main_v4) (V c main_v5) (V c main_v6) (V c main_v7) (V c main_v8) :=
  (dat0 V a c).arrAt_eq_of_emb 7 _ (fun t _ y => (congrFun (after0_7 V a c t) y).trans
    ((point0_7 V a c t y).trans (congrArg (attnArr (a.1 0) (V c main_v2) (V c main_v3) (V c main_v4) (V c main_v5) (V c main_v6) (V c main_v7) (V c main_v8)) (emb0_7 a t y)).symm)) (reach0_7 a)

/-- What the body leaves of the new keys' codes at point `t`. -/
theorem point0_8 (t : Fin grid0.N) (y : S1x4x6x64.Idx) : out0_8 (iblk0 V a c 1 t) y = codeArr (V c main_v3) (ix4 (seq t) (y 1) (y 2) (y 3)) := by
  refine (congrArg (out0_8 _) (eq_ix4 y)).trans ?_
  refine (out0_8_apply _ (y 0) (y 1) (y 2) (y 3)).trans ?_
  exact blockCode_eq (V c main_v3) (seq t) _ (block0_1 V a c t) (y 1) (y 2) (y 3)

/-- The array of the new keys' codes after the call. -/
theorem array0_8 : (dat0 V a c).arrAt 8 (cfg0 a).N = codeArr (V c main_v3) :=
  (dat0 V a c).arrAt_eq_of_emb 8 _ (fun t _ y => (congrFun (after0_8 V a c t) y).trans
    ((point0_8 V a c t y).trans (congrArg (codeArr (V c main_v3)) (emb0_8 a t y)).symm)) (reach0_8 a)

/-- What the body leaves of the new keys' scales at point `t`. -/
theorem point0_9 (t : Fin grid0.N) (y : S1x4x6x1.Idx) : out0_9 (iblk0 V a c 1 t) y = scaleArr (V c main_v3) (ix4 (seq t) (y 1) (y 2) (y 3)) := by
  refine (congrArg (out0_9 _) (eq_ix4 y)).trans ?_
  refine (out0_9_apply _ (y 0) (y 1) (y 2) (y 3)).trans ?_
  exact blockScale_eq (V c main_v3) (seq t) _ (block0_1 V a c t) (y 1) (y 2) (y 3)

/-- The array of the new keys' scales after the call. -/
theorem array0_9 : (dat0 V a c).arrAt 9 (cfg0 a).N = scaleArr (V c main_v3) :=
  (dat0 V a c).arrAt_eq_of_emb 9 _ (fun t _ y => (congrFun (after0_9 V a c t) y).trans
    ((point0_9 V a c t y).trans (congrArg (scaleArr (V c main_v3)) (emb0_9 a t y)).symm)) (reach0_9 a)

/-- What the body leaves of the new values' codes at point `t`. -/
theorem point0_10 (t : Fin grid0.N) (y : S1x4x6x64.Idx) : out0_10 (iblk0 V a c 2 t) y = codeArr (V c main_v4) (ix4 (seq t) (y 1) (y 2) (y 3)) := by
  refine (congrArg (out0_10 _) (eq_ix4 y)).trans ?_
  refine (out0_10_apply _ (y 0) (y 1) (y 2) (y 3)).trans ?_
  exact blockCode_eq (V c main_v4) (seq t) _ (block0_2 V a c t) (y 1) (y 2) (y 3)

/-- The array of the new values' codes after the call. -/
theorem array0_10 : (dat0 V a c).arrAt 10 (cfg0 a).N = codeArr (V c main_v4) :=
  (dat0 V a c).arrAt_eq_of_emb 10 _ (fun t _ y => (congrFun (after0_10 V a c t) y).trans
    ((point0_10 V a c t y).trans (congrArg (codeArr (V c main_v4)) (emb0_10 a t y)).symm)) (reach0_10 a)

/-- What the body leaves of the new values' scales at point `t`. -/
theorem point0_11 (t : Fin grid0.N) (y : S1x4x6x1.Idx) : out0_11 (iblk0 V a c 2 t) y = scaleArr (V c main_v4) (ix4 (seq t) (y 1) (y 2) (y 3)) := by
  refine (congrArg (out0_11 _) (eq_ix4 y)).trans ?_
  refine (out0_11_apply _ (y 0) (y 1) (y 2) (y 3)).trans ?_
  exact blockScale_eq (V c main_v4) (seq t) _ (block0_2 V a c t) (y 1) (y 2) (y 3)

/-- The array of the new values' scales after the call. -/
theorem array0_11 : (dat0 V a c).arrAt 11 (cfg0 a).N = scaleArr (V c main_v4) :=
  (dat0 V a c).arrAt_eq_of_emb 11 _ (fun t _ y => (congrFun (after0_11 V a c t) y).trans
    ((point0_11 V a c t y).trans (congrArg (scaleArr (V c main_v4)) (emb0_11 a t y)).symm)) (reach0_11 a)

end Cert.KernelIdeal.Whole

end
-- ==== Proof.OutValue.lean ====
/- The quantization call over the extended reals: what its two result arrays hold after the run, entry by entry. -/
module

public import proofs.«01_k».proof.Proof.AttendPlace

@[expose] public section

set_option maxRecDepth 16384

noncomputable section

namespace Cert.KernelIdeal.Whole

open Cert.KernelIdeal Cert.KernelIdeal.Gen
open Idealize.ShloMosaic Idealize.ShloMosaic.TcCoe
open Cert.Spec

variable (V : (c : Dev nD) → (b : Ref sig .tc) → Buf (Elt Ideal) ((c : Thread nD τ).loc b)) (c : Dev nD)

/-! ## Where a block sits in its array -/

/-- The array row that row `y` of point `t`'s block is. -/
def rowAt (t : Fin grid1.N) (y : Fin 384) : Fin 3072 :=
  ⟨(grid1.coords t 0).val * 384 + y.val, by
    have h : (grid1.coords t 0).val < 8 := (grid1.coords t 0).isLt
    have hy := y.isLt
    omega⟩

/-- Along the rows a block starts at its point's multiple of the block's height. -/
theorem row_block (t : Fin grid1.N) (y : Fin 384) : (BitVec.ofNat 32 (grid1.coords t 0).val).toNat * 384 + y.val = (rowAt t y).val := by
  have h : (grid1.coords t 0).val < 8 := (grid1.coords t 0).isLt
  rw [BitVec.toNat_ofNat, Nat.mod_eq_of_lt (by omega)]
  rfl

/-- Where window 0's block at point `t` puts an index. -/
theorem emb1_0 (t : Fin grid1.N) (y : S384x1280.Idx) : ((cfg1.win 0).blk t).view.emb y = ix2 (rowAt t (y 0)) (y 1) :=
  funext fun k => Fin.ext (by
    refine (Pipeline.Window.rect_emb_val (cfg1.win 0) t y k rfl).trans ?_
    match k with
    | ⟨0, _⟩ => exact row_block t (y 0)
    | ⟨1, _⟩ => exact whole_block _ _)

/-- Where window 1's block at point `t` puts an index. -/
theorem emb1_1 (t : Fin grid1.N) (y : S384x1280.Idx) : ((cfg1.win 1).blk t).view.emb y = ix2 (rowAt t (y 0)) (y 1) :=
  funext fun k => Fin.ext (by
    refine (Pipeline.Window.rect_emb_val (cfg1.win 1) t y k rfl).trans ?_
    match k with
    | ⟨0, _⟩ => exact row_block t (y 0)
    | ⟨1, _⟩ => exact whole_block _ _)

/-- Where window 2's block at point `t` puts an index. -/
theorem emb1_2 (t : Fin grid1.N) (y : S384x1.Idx) : ((cfg1.win 2).blk t).view.emb y = ix2 (rowAt t (y 0)) (y 1) :=
  funext fun k => Fin.ext (by
    refine (Pipeline.Window.rect_emb_val (cfg1.win 2) t y k rfl).trans ?_
    match k with
    | ⟨0, _⟩ => exact row_block t (y 0)
    | ⟨1, _⟩ => exact whole_block _ _)

/-- The input block at point `t` is the input array at the block's rows. -/
theorem block1_0 (t : Fin grid1.N) (p : Fin 384) (k : Fin 1280) :
    (iblk1 V c 0 t : Vec Ideal S384x1280 .f32) (ix2 p k) = V c main_v12 (ix2 (rowAt t p) k) :=
  congrArg (V c main_v12) (emb1_0 t (ix2 p k))

/-- Every row is some row of some point's block. -/
theorem exists_row (p : Fin 3072) : ∃ (t : Fin grid1.N) (y : Fin 384), rowAt t y = p := by
  have hp := p.isLt
  obtain ⟨t, ht⟩ := grid1.coords_surjective (fun | ⟨0, _⟩ => (⟨p.val / 384, by omega⟩ : Fin 8))
  have h0 : (grid1.coords t 0).val = p.val / 384 := congrArg Fin.val (congrFun ht 0)
  exact ⟨t, ⟨p.val % 384, Nat.mod_lt _ (by decide)⟩, Fin.ext (by show (grid1.coords t 0).val * 384 + p.val % 384 = p.val; omega)⟩

/-- The blocks of window 1 cover its array. -/
theorem reach1_1 (i : S3072x1280.Idx) : ∃ t : Fin cfg1.N, (cfg1.win 1).flush t = true ∧ i ∈ ((cfg1.win 1).blk t).view.set := by
  obtain ⟨t, y, ht⟩ := exists_row (i 0)
  refine ⟨t, flush1_1 t, ?_⟩
  have e : ((cfg1.win 1).blk t).view.emb (ix2 y (i 1)) = i := by
    refine (emb1_1 t _).trans (Eq.trans ?_ (eq_ix2 i).symm)
    exact congrArg (fun p => ix2 p (i 1)) ht
  exact Eq.mp (congrArg (· ∈ ((cfg1.win 1).blk t).view.set) e) (((cfg1.win 1).blk t).view.emb_mem_set _)

/-- The blocks of window 2 cover its array. -/
theorem reach1_2 (i : S3072x1.Idx) : ∃ t : Fin cfg1.N, (cfg1.win 2).flush t = true ∧ i ∈ ((cfg1.win 2).blk t).view.set := by
  obtain ⟨t, y, ht⟩ := exists_row (i 0)
  refine ⟨t, flush1_2 t, ?_⟩
  have e : ((cfg1.win 2).blk t).view.emb (ix2 y (i 1)) = i := by
    refine (emb1_2 t _).trans (Eq.trans ?_ (eq_ix2 i).symm)
    exact congrArg (fun p => ix2 p (i 1)) ht
  exact Eq.mp (congrArg (· ∈ ((cfg1.win 2).blk t).view.set) e) (((cfg1.win 2).blk t).view.emb_mem_set _)

/-- The array of the output's codes. -/
def outCodes (x : Vec Ideal S3072x1280 .f32) : Vec Ideal S3072x1280 .i8 :=
  fun i => code (x (ix2 (i 0) (i 1))) (rowScale fun k : Fin 1280 => x (ix2 (i 0) k))

/-- The array of the output's scales. -/
def outScales (x : Vec Ideal S3072x1280 .f32) : Vec Ideal S3072x1 .f32 :=
  fun i => rowScale fun k : Fin 1280 => x (ix2 (i 0) k)

/-- A code of a block is the array's code at the block's row. -/
theorem outCodes_eq (x : Vec Ideal S3072x1280 .f32) (f : Fin 384 → Fin 3072) (u : Vec Ideal S384x1280 .f32) (e : ∀ p k, u (ix2 p k) = x (ix2 (f p) k))
    (p : Fin 384) (k : Fin 1280) : code (u (ix2 p k)) (rowScale fun k : Fin 1280 => u (ix2 p k)) = outCodes x (ix2 (f p) k) := by
  simp only [e]; rfl

/-- A scale of a block is the array's scale at the block's row. -/
theorem outScales_eq (x : Vec Ideal S3072x1280 .f32) (f : Fin 384 → Fin 3072) (u : Vec Ideal S384x1280 .f32) (e : ∀ p k, u (ix2 p k) = x (ix2 (f p) k))
    (p : Fin 384) (z : Fin 1) : (rowScale fun k : Fin 1280 => u (ix2 p k)) = outScales x (ix2 (f p) z) := by
  simp only [e]; rfl

/-- What the body leaves in result block 0 at point `t`. -/
theorem point1_1 (t : Fin grid1.N) (y : S384x1280.Idx) : out1_1 (iblk1 V c 0 t) y = outCodes (V c main_v12) (ix2 (rowAt t (y 0)) (y 1)) := by
  refine (congrArg (out1_1 _) (eq_ix2 y)).trans ?_
  refine (out1_1_apply _ (y 0) (y 1)).trans ?_
  exact outCodes_eq (V c main_v12) (rowAt t) _ (block1_0 V c t) (y 0) (y 1)

/-- Result array 0 after the call. -/
theorem array1_1 : (dat1 V c).arrAt 1 cfg1.N = outCodes (V c main_v12) :=
  (dat1 V c).arrAt_eq_of_emb 1 _ (fun t _ y => (congrFun (after1_1 V c t) y).trans
    ((point1_1 V c t y).trans (congrArg (outCodes (V c main_v12)) (emb1_1 t y)).symm)) reach1_1

/-- What the body leaves in result block 1 at point `t`. -/
theorem point1_2 (t : Fin grid1.N) (y : S384x1.Idx) : out1_2 (iblk1 V c 0 t) y = outScales (V c main_v12) (ix2 (rowAt t (y 0)) (y 1)) := by
  refine (congrArg (out1_2 _) (eq_ix2 y)).trans ?_
  refine (out1_2_apply _ (y 0) (y 1)).trans ?_
  exact outScales_eq (V c main_v12) (rowAt t) _ (block1_0 V c t) (y 0) (y 1)

/-- Result array 1 after the call. -/
theorem array1_2 : (dat1 V c).arrAt 2 cfg1.N = outScales (V c main_v12) :=
  (dat1 V c).arrAt_eq_of_emb 2 _ (fun t _ y => (congrFun (after1_2 V c t) y).trans
    ((point1_2 V c t y).trans (congrArg (outScales (V c main_v12)) (emb1_2 t y)).symm)) reach1_2

end Cert.KernelIdeal.Whole

end
-- ==== Proof.KernelIdealRun.lean ====
/- The run of the whole program: its host stretches and its two calls in order, from the launch to the return. -/
module

public import proofs.«01_k».proof.Proof.KernelIdealAttend
public import proofs.«01_k».proof.Proof.KernelIdealOutQuant
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
/-- Host stretch 0 writes no buffer but those of its list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10, main_v11, main_v12]
/-- Host stretch 1 writes no buffer but those of its list. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v14, main_v15, main_v16, main_v17, main_v18, main_v19, main_v20, main_v21]
/-- Host stretch 2 writes no buffer but those of its list. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The contents at the launch are the memory's own. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments hold what they held at the launch, before the attention call. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- The table of lengths as the first call finds it (there is one core). -/
def lens : (pcfg0 (F := F)).Adm := ⟨fun k => V1 m ρ 0 (pre0.ref k), trivial⟩
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) (lens m ρ) c).arrAt w (cfg0 (lens m ρ)).N
/-- After the attention call each window's array holds what the call leaves in it. -/
theorem W2_arr (c : Dev nD) (w : Fin 12) :
    W2 m ρ c (Proc.devRef .tc (Pipeline.arrRef spec0 w)) = (dat0 (V1 m ρ) (lens m ρ) c).arrAt w (cfg0 (lens m ρ)).N := by
  unfold W2; exact Pipeline.withArrays_arr spec0 (launch0 (F := F)).win.arr_inj c _ _ w
/-- After the attention call a buffer that is no window's array holds what it held before the call. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin 12, Pipeline.arrRef spec0 w = r → (spec0 w).isOut = false) :
    W2 m ρ c (Proc.devRef .tc r) = W1 m ρ c (Proc.devRef .tc r) := by
  by_cases hw : ∃ w : Fin 12, Pipeline.arrRef spec0 w = r
  · obtain ⟨w, rfl⟩ := hw
    exact (W2_arr m ρ c w).trans (((dat0 (V1 m ρ) (lens m ρ) c).arrAt_in w (h w rfl) _).trans (A_eq0 (V1 m ρ) (lens m ρ) c w))
  · exact W2_of_ne m ρ c r fun w e => hw ⟨w, e⟩
/-- Every argument among region 0's arrays is an input window's (checked: each argument against each window). -/
theorem argsIn0 : ∀ a ∈ argRefs, ∀ w : Fin 12, Pipeline.arrRef spec0 w = a → (spec0 w).isOut = false :=
  ListAll.forall_mem_of_all_decide (by decide +kernel)
/-- The arguments hold what they held at the launch, after the attention call. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin 12) : (dat0 (V1 m ρ) (lens m ρ) c).arrAt w (cfg0 (lens m ρ)).N = V2 m ρ c (Pipeline.arrRef spec0 w) :=
  (W2_arr m ρ c w).symm
/-- After the attention call the buffers outside the windows' arrays are as before it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments hold what they held at the launch, before the quantiser call. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- After the quantiser call each window's array holds what the call leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 (launch1 (F := F)).win.arr_inj c _ _ w
/-- After the quantiser call a buffer that is no window's array holds what it held before the call. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments hold what they held at the launch, after the quantiser call. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- After the quantiser call the buffers outside the windows' arrays are as before it. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments hold what they held at the launch, at the return. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- At the return argument 0 holds what it held at the launch. -/
theorem W5_main_arg0 (c : Dev nD) : W5 m ρ c (Proc.devRef .tc main_arg0) = m ((c : Thread nD τ).loc main_arg0) :=
  W5_args m ρ c main_arg0 (by decide)
/-- At the return argument 1 holds what it held at the launch. -/
theorem W5_main_arg1 (c : Dev nD) : W5 m ρ c (Proc.devRef .tc main_arg1) = m ((c : Thread nD τ).loc main_arg1) :=
  W5_args m ρ c main_arg1 (by decide)
/-- At the return argument 2 holds what it held at the launch. -/
theorem W5_main_arg2 (c : Dev nD) : W5 m ρ c (Proc.devRef .tc main_arg2) = m ((c : Thread nD τ).loc main_arg2) :=
  W5_args m ρ c main_arg2 (by decide)
/-- At the return argument 3 holds what it held at the launch. -/
theorem W5_main_arg3 (c : Dev nD) : W5 m ρ c (Proc.devRef .tc main_arg3) = m ((c : Thread nD τ).loc main_arg3) :=
  W5_args m ρ c main_arg3 (by decide)
/-- At the return argument 4 holds what it held at the launch. -/
theorem W5_main_arg4 (c : Dev nD) : W5 m ρ c (Proc.devRef .tc main_arg4) = m ((c : Thread nD τ).loc main_arg4) :=
  W5_args m ρ c main_arg4 (by decide)
/-- At the return argument 5 holds what it held at the launch. -/
theorem W5_main_arg5 (c : Dev nD) : W5 m ρ c (Proc.devRef .tc main_arg5) = m ((c : Thread nD τ).loc main_arg5) :=
  W5_args m ρ c main_arg5 (by decide)
/-- At the return argument 6 holds what it held at the launch. -/
theorem W5_main_arg6 (c : Dev nD) : W5 m ρ c (Proc.devRef .tc main_arg6) = m ((c : Thread nD τ).loc main_arg6) :=
  W5_args m ρ c main_arg6 (by decide)
/-- At the return argument 7 holds what it held at the launch. -/
theorem W5_main_arg7 (c : Dev nD) : W5 m ρ c (Proc.devRef .tc main_arg7) = m ((c : Thread nD τ).loc main_arg7) :=
  W5_args m ρ c main_arg7 (by decide)

/-! ## The proof data family and the thread state -/

/-- The prefetched tables' contents: the first call's table as it finds it; the second call has none. -/
abbrev adm : (p : Fin 2) → (pcfgs (F := F) p).Adm
  | ⟨0, _⟩ => lens m ρ
  | ⟨1, _⟩ => cfg1.toPCfg_adm
/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) (lens m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

/-- The table a core's buffers hold at the first call's entry is `lens`: there is one core. -/
theorem table_lens (c : Dev nD) :
    (Pipeline.prefHeld pre0 c (fun _ => fullShare) (fun k => V1 m ρ c (pre0.ref k)) : sProp 𝕄)
      = Pipeline.prefHeld pre0 c (fun _ => fullShare) (lens m ρ).1 := by
  have h : c = 0 := Subsingleton.elim _ _
  subst h
  rfl

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) (lens m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop((∃ r, prngReg c r) ∗ Pipeline.prefHeld pre0 c (fun _ => fullShare) (lens m ρ).1)
  Z c := Pipeline.unscopedRestP (Ix := Unit) (Name := ℕ) (U := UR sig nD τ) (Lvl := ℕ) pre0 spec0 c (V1 m ρ c)
  hentry c := by
    have hT := table_lens m ρ c
    rw [Pipeline.ownSems0_none]
    have hsplit := Pipeline.arrays_of_unscopedBufs (p := 0) (pcfgs (F := F)) (adm m ρ) (pdats m ρ) (launch0 (F := F)).win (launch0 (F := F)).arr_whole c
      ((pdats m ρ 0 c).share_full fun _ => rfl) (V1 m ρ c) (A_eq0 (V1 m ρ) (lens m ρ) c)
    rw [Pipeline.unscopedBufs_held, Pipeline.unscopedRest_split (launch0 (F := F)).pre] at hsplit
    iintro ⟨⟨Hub, Hp, HO⟩, -, -⟩
    ihave H := hsplit $$ Hub
    icases H with ⟨Ha, HT, Hrest⟩
    imodintro
    isplitl [Ha]; · iexact Ha
    isplitl [HT]; · iapply (BI.BIBase.Entails.of_eq hT); iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.ΦA spec0 c ∗ Pipeline.prefHeld pre0 c (fun _ => fullShare) (lens m ρ).1) from rfl]
    unfold Pipeline.ΦA
    iintro ⟨Hp, HT, Hr⟩
    isplitl [Hr Hp]
    · isplitl [Hr]; · iexact Hr
      iexact Hp
    iexact HT
  hout c := by
    rw [Pipeline.ownSems0_none, show (pdats m ρ 0 c).Φ (Fin.last _)
      = iprop(Pipeline.ΦA spec0 c ∗ Pipeline.prefHeld pre0 c (fun _ => fullShare) (lens m ρ).1) from rfl]
    unfold Pipeline.ΦA
    iintro ⟨⟨Hr, Hp⟩, HT⟩
    isplitl [Hp HT]
    · isplitl [Hp]; · iexact Hp
      iexact HT
    isplitr; · iempintro
    iexact Hr
  hexit c := by
    have hT := table_lens m ρ c
    have hjoin := Pipeline.unscopedBufs_of_arrays (p := 0) (pcfgs (F := F)) (adm m ρ) (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · (cfg0 (lens m ρ)).N) (hF0 m ρ c) (hrest0 m ρ c)
    rw [Pipeline.unscopedBufs_held, Pipeline.unscopedRest_split (launch0 (F := F)).pre] at hjoin
    iintro ⟨Ha, HO, ⟨HY, HT⟩, Hrest⟩
    imodintro
    isplitl [Ha HT Hrest]
    · iapply hjoin
      isplitl [Ha]; · iexact Ha
      isplitl [HT]; · iapply (BI.BIBase.Entails.of_eq hT.symm); iexact HT
      iexact Hrest
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters, every weakly fair execution of @main terminates, nothing faulting,
    and every final state has every buffer of @main at the last boundary's contents `W5` and every semaphore counter at zero. -/
theorem whole_run : θ_run defs (onTc (τ := τ) (main (F := F))) ⟨m, fun _ => 0, ρ⟩ (fun r =>
      (∀ (c : Dev nD) (b : DevRef τ sig), b ∈ Pipeline.ucRefs τ sig → r.2.mem (c, b) = W5 m ρ c b) ∧ r.2.sem = fun _ => 0) :=
  Pipeline.θ_run_regions_kit_sems (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

/-- The run with @main's arguments read off: they end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c)⟩, h.2⟩) (whole_run m ρ)

end Cert.KernelIdeal.Whole

end
-- ==== Proof.HostReads.lean ====
/- The host's moves of arrays before, between and after the two calls, read at an index. -/
module

public import proofs.«01_k».proof.Proof.KernelIdealRun
public import Idealize.ShloMosaic.Lib.Claim
public import Idealize.ShloMosaic.Lib.Pointwise

@[expose] public section

set_option maxRecDepth 16384

noncomputable section

namespace Cert.KernelIdeal.Whole

open Cert.KernelIdeal Cert.KernelIdeal.Gen
open Idealize.ShloMosaic Idealize.ShloMosaic.TcCoe

variable (W : Valuation τ sig (Elt Ideal))

/-! ## Before the attention call -/

/-- The queries the attention call is entered with: row `r` of head `h` is the query of token `r / 5` and head `5 h + r % 5`. -/
theorem host0_v2 (b : Fin 512) (h : Fin 4) (r : Fin 30) (x : Fin 64) :
    (StableHlo.after hostOps0 W (Proc.devRef .tc main_v2) : Vec Ideal S512x4x30x64 .bf16) (ix4 b h r x)
      = (W (Proc.devRef .tc main_arg0) : Vec Ideal S512x6x20x64 .bf16) (ix4 b ⟨r.val / 5, by omega⟩ ⟨h.val * 5 + r.val % 5, by omega⟩ x) := by
  have e : (StableHlo.after hostOps0 W (Proc.devRef .tc main_v2) : Vec Ideal S512x4x30x64 .bf16)
      = shapeCast S512x4x30x64 (transpose S512x4x6x5x64 [0, 2, 1, 3, 4] (shapeCast S512x6x4x5x64 (W (Proc.devRef .tc main_arg0) : Vec Ideal S512x6x20x64 .bf16)
          shapeCasts_S512x6x20x64_S512x6x4x5x64) transposes_S512x6x4x5x64_S512x4x6x5x64_0_2_1_3_4) shapeCasts_S512x4x6x5x64_S512x4x30x64 := by
    after_results <;> rfl
  rw [e]
  generalize (W (Proc.devRef .tc main_arg0) : Vec Ideal S512x6x20x64 .bf16) = a
  pointwise

/-- The new keys the attention call is entered with. -/
theorem host0_v3 (b : Fin 512) (h : Fin 4) (t : Fin 6) (d : Fin 64) :
    (StableHlo.after hostOps0 W (Proc.devRef .tc main_v3) : Vec Ideal S512x4x6x64 .bf16) (ix4 b h t d) = (W (Proc.devRef .tc main_arg1) : Vec Ideal S512x6x4x64 .bf16) (ix4 b t h d) := by
  have e : (StableHlo.after hostOps0 W (Proc.devRef .tc main_v3) : Vec Ideal S512x4x6x64 .bf16)
      = transpose S512x4x6x64 [0, 2, 1, 3] (W (Proc.devRef .tc main_arg1) : Vec Ideal S512x6x4x64 .bf16) transposes_S512x6x4x64_S512x4x6x64_0_2_1_3 := by
    after_results <;> rfl
  rw [e]
  generalize (W (Proc.devRef .tc main_arg1) : Vec Ideal S512x6x4x64 .bf16) = a
  pointwise

/-- The new values the attention call is entered with. -/
theorem host0_v4 (b : Fin 512) (h : Fin 4) (t : Fin 6) (d : Fin 64) :
    (StableHlo.after hostOps0 W (Proc.devRef .tc main_v4) : Vec Ideal S512x4x6x64 .bf16) (ix4 b h t d) = (W (Proc.devRef .tc main_arg2) : Vec Ideal S512x6x4x64 .bf16) (ix4 b t h d) := by
  have e : (StableHlo.after hostOps0 W (Proc.devRef .tc main_v4) : Vec Ideal S512x4x6x64 .bf16)
      = transpose S512x4x6x64 [0, 2, 1, 3] (W (Proc.devRef .tc main_arg2) : Vec Ideal S512x6x4x64 .bf16) transposes_S512x6x4x64_S512x4x6x64_0_2_1_3 := by
    after_results <;> rfl
  rw [e]
  generalize (W (Proc.devRef .tc main_arg2) : Vec Ideal S512x6x4x64 .bf16) = a
  pointwise

/-- The cached key codes the attention call is entered with. -/
theorem host0_v5 (b : Fin 512) (h : Fin 4) (d : Fin 64) (t : Fin 2048) :
    (StableHlo.after hostOps0 W (Proc.devRef .tc main_v5) : Vec Ideal S512x4x64x2048 .i8) (ix4 b h d t) = (W (Proc.devRef .tc main_arg3) : Vec Ideal S512x2048x4x64 .i8) (ix4 b t h d) := by
  have e : (StableHlo.after hostOps0 W (Proc.devRef .tc main_v5) : Vec Ideal S512x4x64x2048 .i8)
      = transpose S512x4x64x2048 [0, 2, 3, 1] (W (Proc.devRef .tc main_arg3) : Vec Ideal S512x2048x4x64 .i8) transposes_S512x2048x4x64_S512x4x64x2048_0_2_3_1 := by
    after_results <;> rfl
  rw [e]
  generalize (W (Proc.devRef .tc main_arg3) : Vec Ideal S512x2048x4x64 .i8) = a
  pointwise

/-- The cached value codes the attention call is entered with. -/
theorem host0_v6 (b : Fin 512) (h : Fin 4) (d : Fin 64) (t : Fin 2048) :
    (StableHlo.after hostOps0 W (Proc.devRef .tc main_v6) : Vec Ideal S512x4x64x2048 .i8) (ix4 b h d t) = (W (Proc.devRef .tc main_arg4) : Vec Ideal S512x2048x4x64 .i8) (ix4 b t h d) := by
  have e : (StableHlo.after hostOps0 W (Proc.devRef .tc main_v6) : Vec Ideal S512x4x64x2048 .i8)
      = transpose S512x4x64x2048 [0, 2, 3, 1] (W (Proc.devRef .tc main_arg4) : Vec Ideal S512x2048x4x64 .i8) transposes_S512x2048x4x64_S512x4x64x2048_0_2_3_1 := by
    after_results <;> rfl
  rw [e]
  generalize (W (Proc.devRef .tc main_arg4) : Vec Ideal S512x2048x4x64 .i8) = a
  pointwise

/-- The cached key scales the attention call is entered with. -/
theorem host0_v7 (b : Fin 512) (h : Fin 4) (t : Fin 2048) :
    (StableHlo.after hostOps0 W (Proc.devRef .tc main_v7) : Vec Ideal S512x4x2048 .f32) (ix3 b h t) = (W (Proc.devRef .tc main_arg5) : Vec Ideal S512x2048x4 .f32) (ix3 b t h) := by
  have e : (StableHlo.after hostOps0 W (Proc.devRef .tc main_v7) : Vec Ideal S512x4x2048 .f32)
      = transpose S512x4x2048 [0, 2, 1] (W (Proc.devRef .tc main_arg5) : Vec Ideal S512x2048x4 .f32) transposes_S512x2048x4_S512x4x2048_0_2_1 := by
    after_results <;> rfl
  rw [e]
  generalize (W (Proc.devRef .tc main_arg5) : Vec Ideal S512x2048x4 .f32) = a
  pointwise

/-- The cached value scales the attention call is entered with. -/
theorem host0_v8 (b : Fin 512) (h : Fin 4) (t : Fin 2048) :
    (StableHlo.after hostOps0 W (Proc.devRef .tc main_v8) : Vec Ideal S512x4x2048 .f32) (ix3 b h t) = (W (Proc.devRef .tc main_arg6) : Vec Ideal S512x2048x4 .f32) (ix3 b t h) := by
  have e : (StableHlo.after hostOps0 W (Proc.devRef .tc main_v8) : Vec Ideal S512x4x2048 .f32)
      = transpose S512x4x2048 [0, 2, 1] (W (Proc.devRef .tc main_arg6) : Vec Ideal S512x2048x4 .f32) transposes_S512x2048x4_S512x4x2048_0_2_1 := by
    after_results <;> rfl
  rw [e]
  generalize (W (Proc.devRef .tc main_arg6) : Vec Ideal S512x2048x4 .f32) = a
  pointwise

/-! ## Between the calls -/

/-- The rows the quantization call is entered with: column `k` of token `j` of sequence `b` is coordinate `k % 64` of query head
    `k / 64`, which is row `5 j + k / 64 % 5` of head `k / 320`. -/
theorem host1_v12 (b : Fin 512) (j : Fin 6) (k : Fin 1280) :
    (StableHlo.after hostOps1 W (Proc.devRef .tc main_v12) : Vec Ideal S3072x1280 .f32) (ix2 ⟨b.val * 6 + j.val, by omega⟩ k)
      = (W (Proc.devRef .tc main_v9_0) : Vec Ideal S512x4x30x64 .f32) (ix4 b ⟨k.val / 320, by omega⟩ ⟨j.val * 5 + k.val / 64 % 5, by omega⟩ ⟨k.val % 64, by omega⟩) := by
  have e : (StableHlo.after hostOps1 W (Proc.devRef .tc main_v12) : Vec Ideal S3072x1280 .f32)
      = shapeCast S3072x1280 (transpose S512x6x4x5x64 [0, 2, 1, 3, 4] (shapeCast S512x4x6x5x64 (W (Proc.devRef .tc main_v9_0) : Vec Ideal S512x4x30x64 .f32)
          shapeCasts_S512x4x30x64_S512x4x6x5x64) transposes_S512x4x6x5x64_S512x6x4x5x64_0_2_1_3_4) shapeCasts_S512x6x4x5x64_S3072x1280 := by
    after_results <;> rfl
  rw [e]
  generalize (W (Proc.devRef .tc main_v9_0) : Vec Ideal S512x4x30x64 .f32) = a
  pointwise

/-! ## After the calls -/

/-- The output's codes: row `6 b + j` of the call's is token `j` of sequence `b`. -/
theorem host2_v14 (b : Fin 512) (j : Fin 6) (k : Fin 1280) :
    (StableHlo.after hostOps2 W (Proc.devRef .tc main_v14) : Vec Ideal S512x6x1280 .i8) (ix3 b j k)
      = (W (Proc.devRef .tc main_v13_0) : Vec Ideal S3072x1280 .i8) (ix2 ⟨b.val * 6 + j.val, by omega⟩ k) := by
  have e : (StableHlo.after hostOps2 W (Proc.devRef .tc main_v14) : Vec Ideal S512x6x1280 .i8)
      = shapeCast S512x6x1280 (W (Proc.devRef .tc main_v13_0) : Vec Ideal S3072x1280 .i8) shapeCasts_S3072x1280_S512x6x1280 := by
    after_results <;> rfl
  rw [e]
  generalize (W (Proc.devRef .tc main_v13_0) : Vec Ideal S3072x1280 .i8) = a
  pointwise

/-- The output's scales. -/
theorem host2_v15 (b : Fin 512) (j : Fin 6) :
    (StableHlo.after hostOps2 W (Proc.devRef .tc main_v15) : Vec Ideal S512x6 .f32) (ix2 b j)
      = (W (Proc.devRef .tc main_v13_1) : Vec Ideal S3072x1 .f32) (ix2 ⟨b.val * 6 + j.val, by omega⟩ 0) := by
  have e : (StableHlo.after hostOps2 W (Proc.devRef .tc main_v15) : Vec Ideal S512x6 .f32)
      = shapeCast S512x6 (W (Proc.devRef .tc main_v13_1) : Vec Ideal S3072x1 .f32) shapeCasts_S3072x1_S512x6 := by
    after_results <;> rfl
  rw [e]
  generalize (W (Proc.devRef .tc main_v13_1) : Vec Ideal S3072x1 .f32) = a
  pointwise

/-- The codes of the new keys. -/
theorem host2_v16 (b : Fin 512) (j : Fin 6) (h : Fin 4) (d : Fin 64) :
    (StableHlo.after hostOps2 W (Proc.devRef .tc main_v16) : Vec Ideal S512x6x4x64 .i8) (ix4 b j h d) = (W (Proc.devRef .tc main_v9_1) : Vec Ideal S512x4x6x64 .i8) (ix4 b h j d) := by
  have e : (StableHlo.after hostOps2 W (Proc.devRef .tc main_v16) : Vec Ideal S512x6x4x64 .i8)
      = transpose S512x6x4x64 [0, 2, 1, 3] (W (Proc.devRef .tc main_v9_1) : Vec Ideal S512x4x6x64 .i8) transposes_S512x4x6x64_S512x6x4x64_0_2_1_3 := by
    after_results <;> rfl
  rw [e]
  generalize (W (Proc.devRef .tc main_v9_1) : Vec Ideal S512x4x6x64 .i8) = a
  pointwise

/-- The codes of the new values. -/
theorem host2_v19 (b : Fin 512) (j : Fin 6) (h : Fin 4) (d : Fin 64) :
    (StableHlo.after hostOps2 W (Proc.devRef .tc main_v19) : Vec Ideal S512x6x4x64 .i8) (ix4 b j h d) = (W (Proc.devRef .tc main_v9_3) : Vec Ideal S512x4x6x64 .i8) (ix4 b h j d) := by
  have e : (StableHlo.after hostOps2 W (Proc.devRef .tc main_v19) : Vec Ideal S512x6x4x64 .i8)
      = transpose S512x6x4x64 [0, 2, 1, 3] (W (Proc.devRef .tc main_v9_3) : Vec Ideal S512x4x6x64 .i8) transposes_S512x4x6x64_S512x6x4x64_0_2_1_3 := by
    after_results <;> rfl
  rw [e]
  generalize (W (Proc.devRef .tc main_v9_3) : Vec Ideal S512x4x6x64 .i8) = a
  pointwise

/-- The scales of the new keys. -/
theorem host2_v18 (b : Fin 512) (j : Fin 6) (h : Fin 4) :
    (StableHlo.after hostOps2 W (Proc.devRef .tc main_v18) : Vec Ideal S512x6x4 .f32) (ix3 b j h)
      = (W (Proc.devRef .tc main_v9_2) : Vec Ideal S512x4x6x1 .f32) (ix4 b h j 0) := by
  have e : (StableHlo.after hostOps2 W (Proc.devRef .tc main_v18) : Vec Ideal S512x6x4 .f32)
      = transpose S512x6x4 [0, 2, 1] (shapeCast S512x4x6 (W (Proc.devRef .tc main_v9_2) : Vec Ideal S512x4x6x1 .f32) shapeCasts_S512x4x6x1_S512x4x6)
          transposes_S512x4x6_S512x6x4_0_2_1 := by
    after_results <;> rfl
  rw [e]
  generalize (W (Proc.devRef .tc main_v9_2) : Vec Ideal S512x4x6x1 .f32) = a
  pointwise

/-- The scales of the new values. -/
theorem host2_v21 (b : Fin 512) (j : Fin 6) (h : Fin 4) :
    (StableHlo.after hostOps2 W (Proc.devRef .tc main_v21) : Vec Ideal S512x6x4 .f32) (ix3 b j h)
      = (W (Proc.devRef .tc main_v9_4) : Vec Ideal S512x4x6x1 .f32) (ix4 b h j 0) := by
  have e : (StableHlo.after hostOps2 W (Proc.devRef .tc main_v21) : Vec Ideal S512x6x4 .f32)
      = transpose S512x6x4 [0, 2, 1] (shapeCast S512x4x6 (W (Proc.devRef .tc main_v9_4) : Vec Ideal S512x4x6x1 .f32) shapeCasts_S512x4x6x1_S512x4x6)
          transposes_S512x4x6_S512x6x4_0_2_1 := by
    after_results <;> rfl
  rw [e]
  generalize (W (Proc.devRef .tc main_v9_4) : Vec Ideal S512x4x6x1 .f32) = a
  pointwise

end Cert.KernelIdeal.Whole

end
-- ==== Proof.ReferenceRead.lean ====
/- The reference's payloads over the extended reals, read at an index: each is the operation's mathematics of `Spec`. -/
module

public import proofs.«01_k».proof.Proof.Spec
public import proofs.«01_k».proof.Proof.Gen.ReferenceIdeal.Value
public import Idealize.ShloMosaic.Lib.Pointwise

@[expose] public section

set_option maxRecDepth 16384

noncomputable section

namespace Cert.ReferenceIdeal.Read

open Cert.ReferenceIdeal Cert.ReferenceIdeal.Gen
open Idealize.ShloMosaic
open Cert.Spec

/-! ## The payloads, of any operands -/

/-- A scale of the new keys or values. -/
theorem scale_apply (x : Vec Ideal S512x6x4x64 .bf16) (b : Fin 512) (j : Fin 6) (h : Fin 4) :
    k0_pay2 x (ix3 b j h) = rowScale fun d : Fin 64 => x (ix4 b j h d) := by
  unfold rowScale rowAmax
  pointwise [k0_pay2, k0_pay1]

/-- A code of the new keys. -/
theorem code_apply (x : Vec Ideal S512x6x4x64 .bf16) (b : Fin 512) (j : Fin 6) (h : Fin 4) (d : Fin 64) :
    k0_pay3 x (ix4 b j h d) = code (x (ix4 b j h d)) (rowScale fun d : Fin 64 => x (ix4 b j h d)) := by
  rw [← scale_apply]
  unfold code rounded
  pointwise [k0_pay3, k0_pay1]

/-- The values are quantised as the keys are: their scales. -/
theorem pay5_eq (x : Vec Ideal S512x6x4x64 .bf16) : k0_pay5 x = k0_pay2 x := rfl

/-- The values are quantised as the keys are: their codes. -/
theorem pay6_eq (x : Vec Ideal S512x6x4x64 .bf16) : k0_pay6 x = k0_pay3 x := rfl

/-- Row `r` of head `h` is query position `r / 5`, query head `5 h + r % 5`. -/
abbrev qix (b : Fin 512) (h : Fin 4) (r : Fin 30) (x : Fin 64) : S512x6x20x64.Idx :=
  ix4 b (⟨r.val / 5, by omega⟩ : Fin 6) (⟨h.val * 5 + r.val % 5, by omega⟩ : Fin 20) x

/-- The scores against the cached keys. -/
theorem scoreC_apply (q : Vec Ideal S512x6x20x64 .bf16) (k : Vec Ideal S512x2048x4x64 .i8) (ks : Vec Ideal S512x2048x4 .f32) (n : Vec Ideal S512 .i32)
    (b : Fin 512) (h : Fin 4) (r : Fin 30) (t : Fin 2048) :
    k0_pay8 q k ks n (ix4 b h r t)
      = scoreC (fun x => q (qix b h r x)) (fun x => k (ix4 b t h x)) (ks (ix3 b t h)) (n (ix1 b)) t.val := by
  unfold scoreC
  pointwise [k0_pay8, k0_pay7]

/-- The scores against the new keys, before the mask. -/
theorem dotN_apply (s : FVec Ideal S512x6x4 .f32) (k : IVec S512x6x4x64 8) (q : Vec Ideal S512x6x20x64 .bf16)
    (b : Fin 512) (h : Fin 4) (r : Fin 30) (t : Fin 6) :
    k0_pay9 s k q (ix4 b h r t)
      = (∑ x, q (qix b h r x) * FloatOps.sitofp (F := Ideal) .bf16 (k (ix4 b t h x))) * (s (ix3 b t h) * Ideal.ofBits .f32 0x3E000000#32) := by
  pointwise [k0_pay9, k0_pay7]

/-- The mask of the new keys: query row `r`, at position `r / 5`, sees the new keys up to its own position. -/
def vis (v70 v71 : IVec S30x6 32) (c5_i32 : BitVec 32) (v73 v76 v79 : IVec S30x6 32) : IVec S30x6 1 :=
  cmpi .sle v70 (select (andi (cmpi .ne (subi v76 v79)
      (broadcast S30x6 (Scalar.subi (Scalar.extui (Scalar.cmpi .sgt c5_i32 0#32)) (Scalar.extui (Scalar.cmpi .slt c5_i32 0#32)))))
    (cmpi .ne (remsi v71 (broadcast S30x6 c5_i32)) (broadcast S30x6 0#32))) (subi v73 (broadcast S30x6 1#32)) v73)

variable (v61 : FVec Ideal S512x4x30x2048 .f32) (v69 : FVec Ideal S512x4x30x6 .f32) (v70 v71 : IVec S30x6 32) (c5 : BitVec 32) (v73 v76 v79 : IVec S30x6 32)

/-- The masked scores against the new keys. -/
theorem scoreN_apply (b : Fin 512) (h : Fin 4) (r : Fin 30) (t : Fin 6) :
    k0_pay13 v69 v70 v71 c5 v73 v76 v79 (ix4 b h r t)
      = Scalar.select (vis v70 v71 c5 v73 v76 v79 (ix2 r t)) (v69 (ix4 b h r t)) (Ideal.ofBits .f32 0xFF800000#32) := by
  show select (broadcastTo S512x4x30x6 (shapeCast S1x1x30x6 (shapeCast S1x1x30x6 (vis v70 v71 c5 v73 v76 v79) shapeCasts_S30x6_S1x1x30x6)
    shapeCasts_S1x1x30x6_S1x1x30x6) broadcasts_S1x1x30x6_S512x4x30x6) v69 (broadcast S512x4x30x6 (Scalar.ofBits .f32 0xFF800000#32)) (ix4 b h r t) = _
  generalize vis v70 v71 c5 v73 v76 v79 = w
  pointwise

/-- The largest cached score of each row. -/
def maxC (v61 : FVec Ideal S512x4x30x2048 .f32) : FVec Ideal S512x4x30 .f32 :=
  multiReduction .maximumf [3] S512x4x30 v61 0xFF800000#32 reduces_S512x4x30x2048_S512x4x30 (.inl rfl) rfl

/-- The largest new score of each row. -/
def maxN (v : FVec Ideal S512x4x30x6 .f32) : FVec Ideal S512x4x30 .f32 :=
  multiReduction .maximumf [3] S512x4x30 v 0xFF800000#32 reduces_S512x4x30x6_S512x4x30 (.inl rfl) rfl

/-- `maxC` at a row. -/
theorem maxC_apply (v61 : FVec Ideal S512x4x30x2048 .f32) (b : Fin 512) (h : Fin 4) (r : Fin 30) :
    maxC v61 (ix3 b h r) = Finset.fold max (Ideal.ofBits .f32 0xFF800000#32) (fun t => v61 (ix4 b h r t)) Finset.univ :=
  rowMax4 v61 0xFF800000#32 reduces_S512x4x30x2048_S512x4x30 (.inl rfl) rfl b h r

/-- `maxN` at a row. -/
theorem maxN_apply (v : FVec Ideal S512x4x30x6 .f32) (b : Fin 512) (h : Fin 4) (r : Fin 30) :
    maxN v (ix3 b h r) = Finset.fold max (Ideal.ofBits .f32 0xFF800000#32) (fun t => v (ix4 b h r t)) Finset.univ :=
  rowMax4 v 0xFF800000#32 reduces_S512x4x30x6_S512x4x30 (.inl rfl) rfl b h r

/-- A value per row, kept as a column. -/
theorem column_apply (v : FVec Ideal S512x4x30 .f32) (b : Fin 512) (h : Fin 4) (r : Fin 30) (z : Fin 1) :
    shapeCast S512x4x30x1 v shapeCasts_S512x4x30_S512x4x30x1 (ix4 b h r z) = v (ix3 b h r) := by
  pointwise

/-- A maximum at a row. -/
theorem maximumf_row (A B : FVec Ideal S512x4x30 .f32) (i) : maximumf A B i = max (A i) (B i) := rfl

/-- The row's largest score. -/
theorem smax_apply (b : Fin 512) (h : Fin 4) (r : Fin 30) (z : Fin 1) :
    k0_pay14 v61 v69 v70 v71 c5 v73 v76 v79 (ix4 b h r z)
      = smax (fun t => v61 (ix4 b h r t)) (fun t => k0_pay13 v69 v70 v71 c5 v73 v76 v79 (ix4 b h r t)) := by
  have e : k0_pay14 v61 v69 v70 v71 c5 v73 v76 v79 = shapeCast S512x4x30x1 (maximumf (maxC v61) (maxN (k0_pay13 v69 v70 v71 c5 v73 v76 v79))) shapeCasts_S512x4x30_S512x4x30x1 := rfl
  rw [e, column_apply, maximumf_row, smax, maxC_apply, maxN_apply]

/-- The exponentials of the cached scores. -/
theorem expC_apply (b : Fin 512) (h : Fin 4) (r : Fin 30) (t : Fin 2048) :
    k0_pay15 v61 v69 v70 v71 c5 v73 v76 v79 (ix4 b h r t)
      = Ideal.exp (v61 (ix4 b h r t) - smax (fun t => v61 (ix4 b h r t)) (fun t => k0_pay13 v69 v70 v71 c5 v73 v76 v79 (ix4 b h r t))) := by
  rw [← smax_apply v61 v69 v70 v71 c5 v73 v76 v79 b h r 0]
  pointwise [k0_pay15]

/-- The exponentials of the new scores. -/
theorem expN_apply (b : Fin 512) (h : Fin 4) (r : Fin 30) (t : Fin 6) :
    k0_pay16 v61 v69 v70 v71 c5 v73 v76 v79 (ix4 b h r t)
      = Ideal.exp (k0_pay13 v69 v70 v71 c5 v73 v76 v79 (ix4 b h r t)
          - smax (fun t => v61 (ix4 b h r t)) (fun t => k0_pay13 v69 v70 v71 c5 v73 v76 v79 (ix4 b h r t))) := by
  rw [← smax_apply v61 v69 v70 v71 c5 v73 v76 v79 b h r 0]
  pointwise [k0_pay16]

/-- One over the row's sum. -/
theorem inv_apply (b : Fin 512) (h : Fin 4) (r : Fin 30) (z : Fin 1) :
    k0_pay17 v61 v69 v70 v71 c5 v73 v76 v79 (ix4 b h r z)
      = Spec.inv (fun t => v61 (ix4 b h r t)) (fun t => k0_pay13 v69 v70 v71 c5 v73 v76 v79 (ix4 b h r t)) := by
  unfold Spec.inv
  simp only [← expC_apply v61 v69 v70 v71 c5 v73 v76 v79, ← expN_apply v61 v69 v70 v71 c5 v73 v76 v79]
  pointwise [k0_pay17]

/-- The weights of the cached values. -/
theorem weightC_apply (vs : Vec Ideal S512x2048x4 .f32) (b : Fin 512) (h : Fin 4) (r : Fin 30) (t : Fin 2048) :
    k0_pay18 v61 v69 v70 v71 c5 v73 v76 v79 vs (ix4 b h r t)
      = weight (fun t => v61 (ix4 b h r t)) (fun t => k0_pay13 v69 v70 v71 c5 v73 v76 v79 (ix4 b h r t)) (v61 (ix4 b h r t)) (vs (ix3 b t h)) := by
  unfold weight
  rw [← expC_apply, ← inv_apply v61 v69 v70 v71 c5 v73 v76 v79 b h r 0]
  pointwise [k0_pay18]

/-- The row's inverse, along the new scores. -/
theorem invN_apply (b : Fin 512) (h : Fin 4) (r : Fin 30) (t : Fin 6) :
    k0_pay19 v61 v69 v70 v71 c5 v73 v76 v79 (ix4 b h r t)
      = Spec.inv (fun t => v61 (ix4 b h r t)) (fun t => k0_pay13 v69 v70 v71 c5 v73 v76 v79 (ix4 b h r t)) := by
  rw [← inv_apply v61 v69 v70 v71 c5 v73 v76 v79 b h r 0]
  pointwise [k0_pay19]

/-- The head of output column `c`. -/
abbrev colHead (c : Fin 1280) : Fin 4 := ⟨c.val / 320, by omega⟩

/-- The query row of position `j`, output column `c`. -/
abbrev colRow (j : Fin 6) (c : Fin 1280) : Fin 30 := ⟨j.val * 5 + c.val / 64 % 5, by omega⟩

/-- The coordinate of output column `c` in its query head. -/
abbrev colDim (c : Fin 1280) : Fin 64 := ⟨c.val % 64, by omega⟩

/-- The attention's output row, from the weights. -/
theorem out_apply (v28 : FVec Ideal S512x6x4 .f32) (v37 : IVec S512x6x4x64 8) (v111 : FVec Ideal S512x4x30x6 .f32) (v125 : FVec Ideal S512x4x30x2048 .bf16)
    (v126 : FVec Ideal S512x4x30x6 .f32) (v133 : Vec Ideal S512x2048x4x64 .i8) (b : Fin 512) (j : Fin 6) (c : Fin 1280) :
    k0_pay20 v28 v37 v111 v125 v126 v133 (ix3 b j c)
      = ∑ x : Fin 2048, v125 (ix4 b (colHead c) (colRow j c) x) * FloatOps.sitofp (F := Ideal) .bf16 (v133 (ix4 b x (colHead c) (colDim c)))
        + ∑ x : Fin 6, v111 (ix4 b (colHead c) (colRow j c) x) * v126 (ix4 b (colHead c) (colRow j c) x) * v28 (ix3 b x (colHead c))
            * FloatOps.sitofp (F := Ideal) .bf16 (v37 (ix4 b x (colHead c) (colDim c))) := by
  pointwise [k0_pay20]

/-- The largest magnitude of each output row. -/
def maxO (o : FVec Ideal S512x6x1280 .f32) : FVec Ideal S512x6 .f32 :=
  multiReduction .maximumf [2] S512x6 (absf o) 0xFF800000#32 reduces_S512x6x1280_S512x6 (.inl rfl) rfl

/-- `maxO` at a row. -/
theorem maxO_apply (o : FVec Ideal S512x6x1280 .f32) (b : Fin 512) (j : Fin 6) :
    maxO o (ix2 b j) = rowAmax fun c : Fin 1280 => o (ix3 b j c) :=
  rowMax3 (absf o) 0xFF800000#32 reduces_S512x6x1280_S512x6 (.inl rfl) rfl b j

/-- A scale from the largest magnitude. -/
theorem scaleOf_apply (A : FVec Ideal S512x6 .f32) (b : Fin 512) (j : Fin 6) :
    select (cmpf .oeq A (broadcast S512x6 (Scalar.ofBits .f32 0x00000000#32)))
        (broadcast S512x6 (Scalar.ofBits .f32 0x3F800000#32)) (divf A (broadcast S512x6 (Scalar.ofBits .f32 0x42FE0000#32))) (ix2 b j)
      = if A (ix2 b j) = 0 then 1 else Ideal.div (A (ix2 b j)) (Ideal.ofBits .f32 0x42FE0000#32) := by
  pointwise

/-- The codes of rows `o` at the scales `s`. -/
theorem codeOf_apply (s : FVec Ideal S512x6 .f32) (o : FVec Ideal S512x6x1280 .f32) (b : Fin 512) (j : Fin 6) (c : Fin 1280) :
    fptosi 8 (minimumf (broadcast S512x6x1280 (Scalar.ofBits .f32 0x42FE0000#32)) (maximumf (broadcast S512x6x1280 (Scalar.ofBits .f32 0xC2FE0000#32))
        (roundeven (divf o (broadcastTo S512x6x1280 (shapeCast S512x6x1 s shapeCasts_S512x6_S512x6x1) broadcasts_S512x6x1_S512x6x1280))))) (ix3 b j c)
      = code (o (ix3 b j c)) (s (ix2 b j)) := by
  unfold code rounded
  pointwise

/-- The scale of an output row. -/
theorem oscale_apply (v28 : FVec Ideal S512x6x4 .f32) (v37 : IVec S512x6x4x64 8) (v111 : FVec Ideal S512x4x30x6 .f32) (v125 : FVec Ideal S512x4x30x2048 .bf16)
    (v126 : FVec Ideal S512x4x30x6 .f32) (v133 : Vec Ideal S512x2048x4x64 .i8) (b : Fin 512) (j : Fin 6) :
    k0_pay21 v28 v37 v111 v125 v126 v133 (ix2 b j) = rowScale fun c : Fin 1280 => k0_pay20 v28 v37 v111 v125 v126 v133 (ix3 b j c) := by
  unfold rowScale
  rw [← maxO_apply]
  exact scaleOf_apply (maxO (k0_pay20 v28 v37 v111 v125 v126 v133)) b j

/-- The codes of an output row. -/
theorem ocode_apply (v28 : FVec Ideal S512x6x4 .f32) (v37 : IVec S512x6x4x64 8) (v111 : FVec Ideal S512x4x30x6 .f32) (v125 : FVec Ideal S512x4x30x2048 .bf16)
    (v126 : FVec Ideal S512x4x30x6 .f32) (v133 : Vec Ideal S512x2048x4x64 .i8) (b : Fin 512) (j : Fin 6) (c : Fin 1280) :
    k0_pay22 v28 v37 v111 v125 v126 v133 (ix3 b j c)
      = code (k0_pay20 v28 v37 v111 v125 v126 v133 (ix3 b j c)) (rowScale fun c : Fin 1280 => k0_pay20 v28 v37 v111 v125 v126 v133 (ix3 b j c)) := by
  rw [← oscale_apply]
  exact codeOf_apply (k0_pay21 v28 v37 v111 v125 v126 v133) (k0_pay20 v28 v37 v111 v125 v126 v133) b j c

end Cert.ReferenceIdeal.Read

end
-- ==== Proof.ReferenceValue.lean ====
/- The reference's results, entry by entry, in its arguments. -/
module

public import proofs.«01_k».proof.Proof.ReferenceRead
public import proofs.«01_k».proof.Proof.KernelIdealAttend

@[expose] public section

set_option maxRecDepth 16384

noncomputable section

namespace Cert.ReferenceIdeal.Read

open Cert.ReferenceIdeal Cert.ReferenceIdeal.Gen Cert.ReferenceIdeal.Value
open Idealize.ShloMosaic
open Cert.Spec

variable (a0 : Vec Ideal S512x6x20x64 .bf16) (a1 a2 : Vec Ideal S512x6x4x64 .bf16) (a3 a4 : Vec Ideal S512x2048x4x64 .i8)
  (a5 a6 : Vec Ideal S512x2048x4 .f32) (a7 : Vec Ideal S512 .i32)

/-- The scale of new key or value `t` of head `h`, sequence `b`. -/
def newScale (a : Vec Ideal S512x6x4x64 .bf16) (b : Fin 512) (h : Fin 4) (t : Fin 6) : EReal := rowScale fun d : Fin 64 => a (ix4 b t h d)

/-- The scores of query row `r` against the cached keys. -/
def scC (b : Fin 512) (h : Fin 4) (r : Fin 30) (t : Fin 2048) : EReal :=
  scoreC (fun x => a0 (qix b h r x)) (fun x => a3 (ix4 b t h x)) (a5 (ix3 b t h)) (a7 (ix1 b)) t.val

/-- The scores of query row `r` against the new keys. -/
def scN (b : Fin 512) (h : Fin 4) (r : Fin 30) (t : Fin 6) : EReal :=
  scoreN (Cert.KernelIdeal.Whole.causal (ix2 r t)) (fun x => a0 (qix b h r x)) (fun x => rounded (a1 (ix4 b t h x)) (newScale a1 b h t)) (newScale a1 b h t)

/-- The attention of query row `r` of head `h` in sequence `b`, at coordinate `d`. -/
def attn (b : Fin 512) (h : Fin 4) (r : Fin 30) (d : Fin 64) : EReal :=
  mixed (scC a0 a3 a5 a7 b h r) (scN a0 a1 b h r) (fun t => a4 (ix4 b t h d)) (fun t => a6 (ix3 b t h))
    (fun t => rounded (a2 (ix4 b t h d)) (newScale a2 b h t)) (fun t => newScale a2 b h t)

/-- The reference's mask of the new keys is the kernel's. -/
theorem mask_eq : vis (iota .tc S30x6 32 [1] iota_S30x6_d1_w32) (iota .tc S30x6 32 [0] iota_S30x6_d0_w32) 5#32 k0_pay10 k0_pay11 k0_pay12
    = Cert.KernelIdeal.Whole.causal := rfl

/-- A whole load of the new keys or values. -/
theorem ld_new (a : Vec Ideal S512x6x4x64 .bf16) : View.ld a r0_0 = a := View.ld_unit_zero (S := S512x6x4x64) hz4 _ a

/-- Result 4: the scales of the new keys. -/
theorem G11_apply (b : Fin 512) (j : Fin 6) (h : Fin 4) : G11 a0 a1 a2 a3 a4 a5 a6 a7 (ix3 b j h) = newScale a1 b h j := by
  unfold G11 k0_pay23
  rw [ld_new]; exact scale_apply a1 b j h

/-- Result 3: the codes of the new keys. -/
theorem G10_apply (b : Fin 512) (j : Fin 6) (h : Fin 4) (d : Fin 64) :
    G10 a0 a1 a2 a3 a4 a5 a6 a7 (ix4 b j h d) = code (a1 (ix4 b j h d)) (newScale a1 b h j) := by
  unfold G10 k0_pay24
  rw [ld_new]; exact code_apply a1 b j h d

/-- Result 6: the scales of the new values. -/
theorem G13_apply (b : Fin 512) (j : Fin 6) (h : Fin 4) : G13 a0 a1 a2 a3 a4 a5 a6 a7 (ix3 b j h) = newScale a2 b h j := by
  unfold G13 k0_pay25
  rw [ld_new, pay5_eq]; exact scale_apply a2 b j h

/-- Result 5: the codes of the new values. -/
theorem G12_apply (b : Fin 512) (j : Fin 6) (h : Fin 4) (d : Fin 64) :
    G12 a0 a1 a2 a3 a4 a5 a6 a7 (ix4 b j h d) = code (a2 (ix4 b j h d)) (newScale a2 b h j) := by
  unfold G12 k0_pay26
  rw [ld_new, pay6_eq]; exact code_apply a2 b j h d

/-- The scores against the cached keys. -/
theorem pay29_apply (b : Fin 512) (h : Fin 4) (r : Fin 30) (t : Fin 2048) :
    k0_pay29 a0 a1 a2 a3 a4 a5 a6 a7 (ix4 b h r t) = scC a0 a3 a5 a7 b h r t := by
  unfold k0_pay29
  rw [View.ld_unit_zero (S := S512x6x20x64) hz4 _ a0, View.ld_unit_zero (S := S512x2048x4x64) hz4 _ a3,
    View.ld_unit_zero (S := S512x2048x4) hz5 _ a5, View.ld_unit_zero (S := S512) hz7 _ a7]
  exact scoreC_apply a0 a3 a5 a7 b h r t

/-- The masked scores against the new keys. -/
theorem pay30_apply (b : Fin 512) (h : Fin 4) (r : Fin 30) (t : Fin 6) :
    k0_pay13 (k0_pay30 a0 a1 a2 a3 a4 a5 a6 a7) (k0_pay27 a0 a1 a2 a3 a4 a5 a6 a7) (k0_pay28 a0 a1 a2 a3 a4 a5 a6 a7) 5#32 (k0_pay31 a0 a1 a2 a3 a4 a5 a6 a7)
        (k0_pay32 a0 a1 a2 a3 a4 a5 a6 a7) (k0_pay33 a0 a1 a2 a3 a4 a5 a6 a7) (ix4 b h r t)
      = scN a0 a1 b h r t := by
  rw [scoreN_apply]
  unfold k0_pay27 k0_pay28 k0_pay31 k0_pay32 k0_pay33 k0_pay30 k0_pay23 k0_pay24
  rw [mask_eq, ld_new, View.ld_unit_zero (S := S512x6x20x64) hz4 _ a0, dotN_apply, scale_apply]
  unfold scN scoreN newScale
  simp only [code_apply, sitofp_code]

/-- The attention's output row. -/
theorem pay20_apply (b : Fin 512) (j : Fin 6) (c : Fin 1280) :
    k0_pay20 (k0_pay25 a0 a1 a2 a3 a4 a5 a6 a7) (k0_pay26 a0 a1 a2 a3 a4 a5 a6 a7) (k0_pay34 a0 a1 a2 a3 a4 a5 a6 a7) (k0_pay35 a0 a1 a2 a3 a4 a5 a6 a7)
        (k0_pay36 a0 a1 a2 a3 a4 a5 a6 a7) a4 (ix3 b j c)
      = attn a0 a1 a2 a3 a4 a5 a6 a7 b (colHead c) (colRow j c) (colDim c) := by
  rw [out_apply]
  generalize colHead c = h
  generalize colRow j c = r
  generalize colDim c = d
  unfold attn mixed
  have eC : (fun t => k0_pay29 a0 a1 a2 a3 a4 a5 a6 a7 (ix4 b h r t)) = scC a0 a3 a5 a7 b h r := funext fun t => pay29_apply a0 a1 a2 a3 a4 a5 a6 a7 b h r t
  have eN : (fun t => k0_pay13 (k0_pay30 a0 a1 a2 a3 a4 a5 a6 a7) (k0_pay27 a0 a1 a2 a3 a4 a5 a6 a7) (k0_pay28 a0 a1 a2 a3 a4 a5 a6 a7) 5#32
      (k0_pay31 a0 a1 a2 a3 a4 a5 a6 a7) (k0_pay32 a0 a1 a2 a3 a4 a5 a6 a7) (k0_pay33 a0 a1 a2 a3 a4 a5 a6 a7) (ix4 b h r t)) = scN a0 a1 b h r :=
    funext fun t => pay30_apply a0 a1 a2 a3 a4 a5 a6 a7 b h r t
  refine congrArg₂ (· + ·) (Finset.sum_congr rfl fun x _ => ?_) (Finset.sum_congr rfl fun x _ => ?_)
  · unfold k0_pay35
    rw [View.ld_unit_zero (S := S512x2048x4) hz5 _ a6, weightC_apply, eC, eN, pay29_apply]
  · unfold k0_pay34 k0_pay36
    rw [expN_apply, invN_apply, eC, eN, pay30_apply]
    unfold weight
    have e1 : k0_pay25 a0 a1 a2 a3 a4 a5 a6 a7 (ix3 b x h) = newScale a2 b h x := G13_apply a0 a1 a2 a3 a4 a5 a6 a7 b x h
    have e2 : k0_pay26 a0 a1 a2 a3 a4 a5 a6 a7 (ix4 b x h d) = code (a2 (ix4 b x h d)) (newScale a2 b h x) := G12_apply a0 a1 a2 a3 a4 a5 a6 a7 b x h d
    rw [e1, e2, sitofp_code]

/-- Result 2: the scales of the output rows. -/
theorem G9_apply (b : Fin 512) (j : Fin 6) :
    G9 a0 a1 a2 a3 a4 a5 a6 a7 (ix2 b j) = rowScale fun c : Fin 1280 => attn a0 a1 a2 a3 a4 a5 a6 a7 b (colHead c) (colRow j c) (colDim c) := by
  unfold G9
  rw [oscale_apply]
  simp only [pay20_apply]

/-- Result 1: the codes of the output rows. -/
theorem G8_apply (b : Fin 512) (j : Fin 6) (c : Fin 1280) :
    G8 a0 a1 a2 a3 a4 a5 a6 a7 (ix3 b j c)
      = code (attn a0 a1 a2 a3 a4 a5 a6 a7 b (colHead c) (colRow j c) (colDim c))
          (rowScale fun c : Fin 1280 => attn a0 a1 a2 a3 a4 a5 a6 a7 b (colHead c) (colRow j c) (colDim c)) := by
  unfold G8
  rw [ocode_apply]
  simp only [pay20_apply]

end Cert.ReferenceIdeal.Read

end
-- ==== Proof.KernelValue.lean ====
/- The program's results over the extended reals are the reference's. -/
module

public import proofs.«01_k».proof.Proof.AttendValue
public import proofs.«01_k».proof.Proof.OutValue
public import proofs.«01_k».proof.Proof.HostReads
public import proofs.«01_k».proof.Proof.ReferenceValue

@[expose] public section

set_option maxRecDepth 16384

noncomputable section

namespace Cert.KernelIdeal.Whole

open Cert.KernelIdeal Cert.KernelIdeal.Gen
open Idealize.ShloMosaic Idealize.ShloMosaic.TcCoe
open Cert.Spec
open Cert.ReferenceIdeal.Read (attn newScale qix colHead colRow colDim)
open Cert.ReferenceIdeal.Value (G8 G9 G10 G11 G12 G13)

/-- The attention over the arrays the call is entered with is the reference's over the program's arguments, when those arrays are the
    arguments moved as the host moves them. -/
theorem attnAt_eq (a0 : Vec Ideal S512x6x20x64 .bf16) (a1 a2 : Vec Ideal S512x6x4x64 .bf16) (a3 a4 : Vec Ideal S512x2048x4x64 .i8)
    (a5 a6 : Vec Ideal S512x2048x4 .f32) (a7 : Vec Ideal S512 .i32)
    (n : S512.Idx → Elt Ideal .i32) (q : Vec Ideal S512x4x30x64 .bf16) (kn vn : Vec Ideal S512x4x6x64 .bf16) (k v : Vec Ideal S512x4x64x2048 .i8)
    (ks vs : Vec Ideal S512x4x2048 .f32) (en : n = a7) (eq : ∀ b h r x, q (ix4 b h r x) = a0 (qix b h r x))
    (ekn : ∀ b h t d, kn (ix4 b h t d) = a1 (ix4 b t h d)) (evn : ∀ b h t d, vn (ix4 b h t d) = a2 (ix4 b t h d))
    (ek : ∀ b h d t, k (ix4 b h d t) = a3 (ix4 b t h d)) (ev : ∀ b h d t, v (ix4 b h d t) = a4 (ix4 b t h d))
    (eks : ∀ b h t, ks (ix3 b h t) = a5 (ix3 b t h)) (evs : ∀ b h t, vs (ix3 b h t) = a6 (ix3 b t h))
    (b : Fin 512) (h : Fin 4) (r : Fin 30) (d : Fin 64) :
    attnAt n q kn vn k v ks vs b h r d = attn a0 a1 a2 a3 a4 a5 a6 a7 b h r d := by
  subst en
  unfold attnAt attn Cert.ReferenceIdeal.Read.scC Cert.ReferenceIdeal.Read.scN newScale
  simp only [eq, ekn, evn, ek, ev, eks, evs]

/-- The codes over the moved array. -/
theorem codeArr_eq (a x : _) (e : ∀ b h t d, (x : Vec Ideal S512x4x6x64 .bf16) (ix4 b h t d) = (a : Vec Ideal S512x6x4x64 .bf16) (ix4 b t h d))
    (b : Fin 512) (h : Fin 4) (t : Fin 6) (d : Fin 64) : codeArr x (ix4 b h t d) = code (a (ix4 b t h d)) (newScale a b h t) := by
  show code (x (ix4 b h t d)) (rowScale fun d : Fin 64 => x (ix4 b h t d)) = _
  unfold newScale
  simp only [e]

/-- The scales over the moved array. -/
theorem scaleArr_eq (a x : _) (e : ∀ b h t d, (x : Vec Ideal S512x4x6x64 .bf16) (ix4 b h t d) = (a : Vec Ideal S512x6x4x64 .bf16) (ix4 b t h d))
    (b : Fin 512) (h : Fin 4) (t : Fin 6) (z : Fin 1) : scaleArr x (ix4 b h t z) = newScale a b h t := by
  show (rowScale fun d : Fin 64 => x (ix4 b h t d)) = _
  unfold newScale
  simp only [e]

/-- A row's codes from the row's entries. -/
theorem outCodes_row (x : Vec Ideal S3072x1280 .f32) (p : Fin 3072) (f : Fin 1280 → EReal) (e : ∀ k, x (ix2 p k) = f k) (k : Fin 1280) :
    outCodes x (ix2 p k) = code (f k) (rowScale f) := by
  show code (x (ix2 p k)) (rowScale fun k : Fin 1280 => x (ix2 p k)) = _
  simp only [e]

/-- A row's scale from the row's entries. -/
theorem outScales_row (x : Vec Ideal S3072x1280 .f32) (p : Fin 3072) (f : Fin 1280 → EReal) (e : ∀ k, x (ix2 p k) = f k) (z : Fin 1) :
    outScales x (ix2 p z) = rowScale f := by
  show (rowScale fun k : Fin 1280 => x (ix2 p k)) = _
  simp only [e]

variable (m : (ℓ : Loc nD τ sig) → Buf (Elt Ideal) ℓ) (ρ : Dev nD → PrngReg) (c : Dev nD)

/-- The table of lengths is the program's argument. -/
theorem lens_eq : ((lens m ρ).1 0 : S512.Idx → Elt Ideal .i32) = m ((c : Thread nD τ).loc main_arg7) := by
  obtain rfl : c = 0 := Subsingleton.elim _ _
  exact W1_args m ρ 0 main_arg7 (by decide)

/-- The attention array after the first call. -/
theorem attn_array (b : Fin 512) (h : Fin 4) (r : Fin 30) (d : Fin 64) :
    (W2 m ρ c (Proc.devRef .tc main_v9_0) : Vec Ideal S512x4x30x64 .f32) (ix4 b h r d) = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b h r d :=
  (congrFun ((W2_arr m ρ c 7).trans (array0_7 (V1 m ρ) (lens m ρ) c)) (ix4 b h r d)).trans
    (attnAt_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _ _ _ _ _ _ _ (lens_eq m ρ c) (host0_v2 (W0 m ρ c)) (host0_v3 (W0 m ρ c)) (host0_v4 (W0 m ρ c)) (host0_v5 (W0 m ρ c))
      (host0_v6 (W0 m ρ c)) (host0_v7 (W0 m ρ c)) (host0_v8 (W0 m ρ c)) b h r d)

/-- The rows the second call is entered with. -/
theorem out_rows (b : Fin 512) (j : Fin 6) (k : Fin 1280) :
    (V3 m ρ c main_v12 : Vec Ideal S3072x1280 .f32) (ix2 ⟨b.val * 6 + j.val, by omega⟩ k) = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b (colHead k) (colRow j k) (colDim k) :=
  (host1_v12 (W2 m ρ c) b j k).trans (attn_array m ρ c b (colHead k) (colRow j k) (colDim k))

/-- Result 1: the codes of the output. -/
theorem result0 : W5 m ρ c (Proc.devRef .tc main_v14) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun i : S512x6x1280.Idx => ?_
  rw [eq_ix3 i]
  refine (host2_v14 (W4 m ρ c) (i 0) (i 1) (i 2)).trans ?_
  refine (congrFun ((W4_arr m ρ c 1).trans (array1_1 (V3 m ρ) c)) _).trans ?_
  refine Eq.trans ?_ (Cert.ReferenceIdeal.Read.G8_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2)).symm
  exact outCodes_row (V3 m ρ c main_v12) _ (fun k => attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (colHead k) (colRow (i 1) k) (colDim k)) (out_rows m ρ c (i 0) (i 1)) (i 2)

/-- Result 2: the scales of the output. -/
theorem result1 : W5 m ρ c (Proc.devRef .tc main_v15) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun i : S512x6.Idx => ?_
  rw [eq_ix2 i]
  refine (host2_v15 (W4 m ρ c) (i 0) (i 1)).trans ?_
  refine (congrFun ((W4_arr m ρ c 2).trans (array1_2 (V3 m ρ) c)) _).trans ?_
  refine Eq.trans ?_ (Cert.ReferenceIdeal.Read.G9_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1)).symm
  exact outScales_row (V3 m ρ c main_v12) _ (fun k => attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (colHead k) (colRow (i 1) k) (colDim k)) (out_rows m ρ c (i 0) (i 1)) 0

/-- Result 3: the codes of the new keys. -/
theorem result2 : W5 m ρ c (Proc.devRef .tc main_v16) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun i : S512x6x4x64.Idx => ?_
  rw [eq_ix4 i]
  refine (host2_v16 (W4 m ρ c) (i 0) (i 1) (i 2) (i 3)).trans ?_
  refine (congrFun ((W4_of m ρ c main_v9_1 (by decide)).trans ((W3_of m ρ c main_v9_1 (by decide)).trans ((W2_arr m ρ c 8).trans (array0_8 (V1 m ρ) (lens m ρ) c)))) _).trans ?_
  refine Eq.trans ?_ (Cert.ReferenceIdeal.Read.G10_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3)).symm
  exact codeArr_eq _ _ (host0_v3 (W0 m ρ c)) (i 0) (i 2) (i 1) (i 3)

/-- Result 4: the scales of the new keys. -/
theorem result3 : W5 m ρ c (Proc.devRef .tc main_v18) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun i : S512x6x4.Idx => ?_
  rw [eq_ix3 i]
  refine (host2_v18 (W4 m ρ c) (i 0) (i 1) (i 2)).trans ?_
  refine (congrFun ((W4_of m ρ c main_v9_2 (by decide)).trans ((W3_of m ρ c main_v9_2 (by decide)).trans ((W2_arr m ρ c 9).trans (array0_9 (V1 m ρ) (lens m ρ) c)))) _).trans ?_
  refine Eq.trans ?_ (Cert.ReferenceIdeal.Read.G11_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2)).symm
  exact scaleArr_eq _ _ (host0_v3 (W0 m ρ c)) (i 0) (i 2) (i 1) 0

/-- Result 5: the codes of the new values. -/
theorem result4 : W5 m ρ c (Proc.devRef .tc main_v19) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun i : S512x6x4x64.Idx => ?_
  rw [eq_ix4 i]
  refine (host2_v19 (W4 m ρ c) (i 0) (i 1) (i 2) (i 3)).trans ?_
  refine (congrFun ((W4_of m ρ c main_v9_3 (by decide)).trans ((W3_of m ρ c main_v9_3 (by decide)).trans ((W2_arr m ρ c 10).trans (array0_10 (V1 m ρ) (lens m ρ) c)))) _).trans ?_
  refine Eq.trans ?_ (Cert.ReferenceIdeal.Read.G12_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3)).symm
  exact codeArr_eq _ _ (host0_v4 (W0 m ρ c)) (i 0) (i 2) (i 1) (i 3)

/-- Result 6: the scales of the new values. -/
theorem result5 : W5 m ρ c (Proc.devRef .tc main_v21) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine funext fun i : S512x6x4.Idx => ?_
  rw [eq_ix3 i]
  refine (host2_v21 (W4 m ρ c) (i 0) (i 1) (i 2)).trans ?_
  refine (congrFun ((W4_of m ρ c main_v9_4 (by decide)).trans ((W3_of m ρ c main_v9_4 (by decide)).trans ((W2_arr m ρ c 11).trans (array0_11 (V1 m ρ) (lens m ρ) c)))) _).trans ?_
  refine Eq.trans ?_ (Cert.ReferenceIdeal.Read.G13_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2)).symm
  exact scaleArr_eq _ _ (host0_v4 (W0 m ρ c)) (i 0) (i 2) (i 1) 0

end Cert.KernelIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- From memories that agree on the arguments the program and the reference end with equal results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.ReferenceIdeal.Value.G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Value.G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Value.G10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Value.G11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Value.G12 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Value.G13 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run _ _ _).mono (fun r h c => ⟨
       (h.1 c _ (Cert.KernelIdeal.Whole.mem_uc Cert.KernelIdeal.main_v14 (by decide))).trans (Cert.KernelIdeal.Whole.result0 m g c),
       (h.1 c _ (Cert.KernelIdeal.Whole.mem_uc Cert.KernelIdeal.main_v15 (by decide))).trans (Cert.KernelIdeal.Whole.result1 m g c),
       (h.1 c _ (Cert.KernelIdeal.Whole.mem_uc Cert.KernelIdeal.main_v16 (by decide))).trans (Cert.KernelIdeal.Whole.result2 m g c),
       (h.1 c _ (Cert.KernelIdeal.Whole.mem_uc Cert.KernelIdeal.main_v18 (by decide))).trans (Cert.KernelIdeal.Whole.result3 m g c),
       (h.1 c _ (Cert.KernelIdeal.Whole.mem_uc Cert.KernelIdeal.main_v19 (by decide))).trans (Cert.KernelIdeal.Whole.result4 m g c),
       (h.1 c _ (Cert.KernelIdeal.Whole.mem_uc Cert.KernelIdeal.main_v21 (by decide))).trans (Cert.KernelIdeal.Whole.result5 m g c),
       (h.1 c _ (Cert.KernelIdeal.Whole.mem_uc Cert.KernelIdeal.main_arg0 (by decide))).trans (Cert.KernelIdeal.Whole.W5_main_arg0 m g c),
       (h.1 c _ (Cert.KernelIdeal.Whole.mem_uc Cert.KernelIdeal.main_arg1 (by decide))).trans (Cert.KernelIdeal.Whole.W5_main_arg1 m g c),
       (h.1 c _ (Cert.KernelIdeal.Whole.mem_uc Cert.KernelIdeal.main_arg2 (by decide))).trans (Cert.KernelIdeal.Whole.W5_main_arg2 m g c),
       (h.1 c _ (Cert.KernelIdeal.Whole.mem_uc Cert.KernelIdeal.main_arg3 (by decide))).trans (Cert.KernelIdeal.Whole.W5_main_arg3 m g c),
       (h.1 c _ (Cert.KernelIdeal.Whole.mem_uc Cert.KernelIdeal.main_arg4 (by decide))).trans (Cert.KernelIdeal.Whole.W5_main_arg4 m g c),
       (h.1 c _ (Cert.KernelIdeal.Whole.mem_uc Cert.KernelIdeal.main_arg5 (by decide))).trans (Cert.KernelIdeal.Whole.W5_main_arg5 m g c),
       (h.1 c _ (Cert.KernelIdeal.Whole.mem_uc Cert.KernelIdeal.main_arg6 (by decide))).trans (Cert.KernelIdeal.Whole.W5_main_arg6 m g c),
       (h.1 c _ (Cert.KernelIdeal.Whole.mem_uc Cert.KernelIdeal.main_arg7 (by decide))).trans (Cert.KernelIdeal.Whole.W5_main_arg7 m g c)⟩) (Cert.KernelIdeal.Whole.whole_run m g)
  · refine (θ_run _ _ _).mono (fun r h c => ?_) (Cert.ReferenceIdeal.Value.run m' g')
    obtain ⟨e0, e1, e2, e3, e4, e5, e6, e7⟩ := hm c
    have k := h c
    rw [e0, e1, e2, e3, e4, e5, e6, e7] at k ⊢
    exact k

/-- All five claims: the three frames, that the ideal program is the kernel over the extended reals, and the equation of results. -/
theorem claim : Cert.Claim := ⟨Cert.Kernel.Gen.facts, Cert.KernelIdeal.Gen.facts, Cert.ReferenceIdeal.Gen.facts,
  fun m g _ => Cert.Kernel.Whole.frame m g, fun m g _ => Cert.KernelIdeal.Whole.frame m g, fun m g _ => Cert.ReferenceIdeal.Gen.frame m g,
  trivial, algebraic⟩

end Cert.Proof

end
